-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_above_padding [hPre_bias_above_padding : Cert.Pre_bias_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_above_padding [hPre_bias_above_padding : Cert.Pre_bias_above_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bias_above_padding [hKernelIdeal : Cert.KernelIdeal.Facts] [hPre_bias_above_padding : Cert.Pre_bias_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bias_above_padding [hReferenceIdeal : Cert.ReferenceIdeal.Facts] [hPre_bias_above_padding : Cert.Pre_bias_above_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_bias_above_padding [hKernelIdeal : Cert.KernelIdeal.Facts] [hReferenceIdeal : Cert.ReferenceIdeal.Facts] [hPre_bias_above_padding : Cert.Pre_bias_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_bias_above_padding : Cert.Pre_bias_above_padding.Facts),
    quiescent_Kernel (hKernel := hKernel)
    ∧ quiescent_KernelIdeal (hKernelIdeal := hKernelIdeal)
    ∧ quiescent_KernelIdeal_pre_bias_above_padding (hKernelIdeal := hKernelIdeal) (hPre_bias_above_padding := hPre_bias_above_padding)
    ∧ quiescent_ReferenceIdeal (hReferenceIdeal := hReferenceIdeal)
    ∧ quiescent_ReferenceIdeal_pre_bias_above_padding (hReferenceIdeal := hReferenceIdeal) (hPre_bias_above_padding := hPre_bias_above_padding)
    ∧ preserves_Kernel_KernelIdeal
    ∧ algebraic_KernelIdeal_ReferenceIdeal_pre_bias_above_padding (hKernelIdeal := hKernelIdeal) (hReferenceIdeal := hReferenceIdeal) (hPre_bias_above_padding := hPre_bias_above_padding)
-- ==== Pre_bias_above_padding.lean ====
abbrev S1x2048x2048 : Shape := ⟨3, ![1, 2048, 2048]⟩
abbrev S2048 : Shape := ⟨1, ![2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S1x2048x2048 .f32) (main_arg1 : FVec F S2048 .f32) (main_arg2 : FVec F S8x2048 .f32) (main_arg3 : FVec F S8 .f32) (main_arg4 : FVec F S8x2048x1024 .f32) (main_arg5 : FVec F S8x2048x1024 .f32) (main_arg6 : FVec F S8x1024x2048 .f32) : IVec S_ 1 :=
  let main_cst : FVec F S_ .f32 := constant S_ .f32 0x3F000000#32
  let main_v0 : FVec F S8 .f32 := broadcastInDim S8 ![] bcast_S_S8 main_cst
  let main_v1 : FVec F S8 .f32 := subf main_arg3 main_v0
  let main_cst_0 : FVec F S_ .f32 := constant S_ .f32 0xF149F2CA#32
  let main_v2 : FVec F S8 .f32 := broadcastInDim S8 ![] bcast_S_S8 main_cst_0
  let main_v3 : IVec S8 1 := cmpf .ogt main_v1 main_v2
  let main_c : IVec S_ 1 := constantI S_ 1 1#1
  let main_v4 : IVec S_ 1 := (fun x v => Host.reduce IntOp.andi x v reducesTo_S8_S_d0 h_S_) main_v3 main_c
  main_v4
-- ==== Kernel.lean ====
abbrev S1x2048x2048 : Shape := ⟨3, ![1, 2048, 2048]⟩
abbrev S2048 : Shape := ⟨1, ![2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S2048x2048 : Shape := ⟨2, ![2048, 2048]⟩
abbrev S_ : Shape := ⟨0, ![]⟩
abbrev S2048x128 : Shape := ⟨2, ![2048, 128]⟩
abbrev S2048x8 : Shape := ⟨2, ![2048, 8]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x256 : Shape := ⟨2, ![256, 256]⟩

abbrev nBuf : Space → Nat
  | .hbm => 24
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S8x2048, .f32⟩
  | .hbm, ⟨3, _⟩ => ⟨S8, .f32⟩
  | .hbm, ⟨4, _⟩ => ⟨S8x2048x1024, .f32⟩
  | .hbm, ⟨5, _⟩ => ⟨S8x2048x1024, .f32⟩
  | .hbm, ⟨6, _⟩ => ⟨S8x1024x2048, .f32⟩
  | .hbm, ⟨7, _⟩ => ⟨S2048x2048, .f32⟩
  | .hbm, ⟨8, _⟩ => ⟨S_, .f32⟩
  | .hbm, ⟨9, _⟩ => ⟨S2048x128, .f32⟩
  | .hbm, ⟨10, _⟩ => ⟨S2048x8, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x2048, .f32⟩
  | .hbm, ⟨23, _⟩ => ⟨S2048x2048, .f32⟩
  | .local _ .vmem, ⟨0, _⟩ => ⟨S2048x2048, .f32⟩
  | .local _ .vmem, ⟨1, _⟩ => ⟨S1x2048, .f32⟩
  | .local _ .vmem, ⟨2, _⟩ => ⟨S2048x128, .f32⟩
  | .local _ .vmem, ⟨3, _⟩ => ⟨S1x128, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S2048x2048, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let arg2 : BitVec 32 := BitVec.ofNat 32 (i 2).val
  let c256_i32 : BitVec 32 := 256#32
  let v0 : BitVec 32 := Scalar.muli arg2 c256_i32
  let v1 : Index := Scalar.indexCast v0
  let c0 : Index := 0#32
  ![v1.toNat, 0]
def k0_cond1 (i : grid0.Coords) : BitVec 1 :=
  let arg0 : BitVec 32 := BitVec.ofNat 32 (i 0).val
  let c0_i32 : BitVec 32 := 0#32
  let v18 : BitVec 1 := Scalar.cmpi .eq arg0 c0_i32
  let arg1 : BitVec 32 := BitVec.ofNat 32 (i 1).val
  let c0_i32_4 : BitVec 32 := 0#32
  let v19 : BitVec 1 := Scalar.cmpi .eq arg1 c0_i32_4
  let v20 : BitVec 1 := Scalar.andi v18 v19
  let v21 : BitVec 32 := Scalar.extui v20
  let c0_i32_5 : BitVec 32 := 0#32
  let v22 : BitVec 1 := Scalar.cmpi .ne v21 c0_i32_5
  v22

def k0_off2 (i : grid0.Coords) : Fin 2 → Nat :=
  let arg2 : BitVec 32 := BitVec.ofNat 32 (i 2).val
  let c256_i32 : BitVec 32 := 256#32
  let v0 : BitVec 32 := Scalar.muli arg2 c256_i32
  let v111 : Index := Scalar.indexCast v0
  let c0_44 : Index := 0#32
  ![v111.toNat, 0]
def k0_off3 (i : grid0.Coords) : Fin 2 → Nat :=
  let arg2 : BitVec 32 := BitVec.ofNat 32 (i 2).val
  let c256_i32 : BitVec 32 := 256#32
  let v0 : BitVec 32 := Scalar.muli arg2 c256_i32
  let v40 : Index := Scalar.indexCast v0
  let c0_17 : Index := 0#32
  ![v40.toNat, 0]
def k0_cond3 (i : grid0.Coords) : BitVec 1 :=
  let arg0 : BitVec 32 := BitVec.ofNat 32 (i 0).val
  let c0_i32_20 : BitVec 32 := 0#32
  let v48 : BitVec 1 := Scalar.cmpi .eq arg0 c0_i32_20
  let arg1 : BitVec 32 := BitVec.ofNat 32 (i 1).val
  let c0_i32_21 : BitVec 32 := 0#32
  let v49 : BitVec 1 := Scalar.cmpi .eq arg1 c0_i32_21
  let v50 : BitVec 1 := Scalar.andi v48 v49
  let v51 : BitVec 32 := Scalar.extui v50
  let c0_i32_22 : BitVec 32 := 0#32
  let v52 : BitVec 1 := Scalar.cmpi .ne v51 c0_i32_22
  v52

def k0_off4 (i : grid0.Coords) : Fin 2 → Nat :=
  let arg2 : BitVec 32 := BitVec.ofNat 32 (i 2).val
  let c256_i32 : BitVec 32 := 256#32
  let v0 : BitVec 32 := Scalar.muli arg2 c256_i32
  let v59 : Index := Scalar.indexCast v0
  let c0_26 : Index := 0#32
  ![v59.toNat, 0]
def k0_cond4 (i : grid0.Coords) : BitVec 1 :=
  let arg0 : BitVec 32 := BitVec.ofNat 32 (i 0).val
  let c0_i32_23 : BitVec 32 := 0#32
  let v53 : BitVec 1 := Scalar.cmpi .ne arg0 c0_i32_23
  let arg1 : BitVec 32 := BitVec.ofNat 32 (i 1).val
  let c0_i32_24 : BitVec 32 := 0#32
  let v54 : BitVec 1 := Scalar.cmpi .ne arg1 c0_i32_24
  let v55 : BitVec 1 := Scalar.ori v53 v54
  let v56 : BitVec 32 := Scalar.extui v55
  let c0_i32_25 : BitVec 32 := 0#32
  let v57 : BitVec 1 := Scalar.cmpi .ne v56 c0_i32_25
  v57

def k0_off5 (i : grid0.Coords) : Fin 2 → Nat :=
  let arg2 : BitVec 32 := BitVec.ofNat 32 (i 2).val
  let c256_i32 : BitVec 32 := 256#32
  let v0 : BitVec 32 := Scalar.muli arg2 c256_i32
  let v58 : Index := Scalar.indexCast v0
  let c0_26 : Index := 0#32
  ![v58.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceIdeal.lean ====
abbrev S1x2048x2048 : Shape := ⟨3, ![1, 2048, 2048]⟩
abbrev S2048 : Shape := ⟨1, ![2048]⟩
abbrev S8x2048 : Shape := ⟨2, ![8, 2048]⟩
abbrev S8 : Shape := ⟨1, ![8]⟩
abbrev S8x2048x1024 : Shape := ⟨3, ![8, 2048, 1024]⟩
abbrev S8x1024x2048 : Shape := ⟨3, ![8, 1024, 2048]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩
abbrev S2048x2048 : Shape := ⟨2, ![2048, 2048]⟩
abbrev S2048x8 : Shape := ⟨2, ![2048, 8]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048x1 : Shape := ⟨2, ![2048, 1]⟩
abbrev S2048x2x2 : Shape := ⟨3, ![2048, 2, 2]⟩
abbrev S8x2048x2048 : Shape := ⟨3, ![8, 2048, 2048]⟩

abbrev nBuf : Space → Nat
  | .hbm => 111
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S8x2048, .f32⟩
  | .hbm, ⟨3, _⟩ => ⟨S8, .f32⟩
  | .hbm, ⟨4, _⟩ => ⟨S8x2048x1024, .f32⟩
  | .hbm, ⟨5, _⟩ => ⟨S8x2048x1024, .f32⟩
  | .hbm, ⟨6, _⟩ => ⟨S8x1024x2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x2048, .f32⟩
  | .hbm, ⟨19, _⟩ => ⟨S1x2048x2048, .f32⟩
  | .hbm, ⟨20, _⟩ => ⟨S1x1x2048, .f32⟩
  | .hbm, ⟨21, _⟩ => ⟨S1x2048x2048, .f32⟩
  | .hbm, ⟨22, _⟩ => ⟨S1x2048x2048, .f32⟩
  | .hbm, ⟨23, _⟩ => ⟨S2048x2048, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x8, .f32⟩
  | .hbm, ⟨31, _⟩ => ⟨S_, .f32⟩
  | .hbm, ⟨32, _⟩ => ⟨S2048x8, .f32⟩
  | .hbm, ⟨33, _⟩ => ⟨S2048x8, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S2048x2, .f32⟩
  | .hbm, ⟨38, _⟩ => ⟨S2048x2, .i32⟩
  | .hbm, ⟨39, _⟩ => ⟨S_, .i32⟩
  | .hbm, ⟨40, _⟩ => ⟨S2048x2, .i32⟩
  | .hbm, ⟨41, _⟩ => ⟨S2048x2, .i1⟩
  | .hbm, ⟨42, _⟩ => ⟨S_, .i32⟩
  | .hbm, ⟨43, _⟩ => ⟨S2048x2, .i32⟩
  | .hbm, ⟨44, _⟩ => ⟨S2048x2, .i32⟩
  | .hbm, ⟨45, _⟩ => ⟨S2048x2, .i32⟩
  | .hbm, ⟨46, _⟩ => ⟨S2048x2x1, .i32⟩
  | .hbm, ⟨47, _⟩ => ⟨S1, .i32⟩
  | .hbm, ⟨48, _⟩ => ⟨S_, .i32⟩
  | .hbm, ⟨49, _⟩ => ⟨S2048x2x1, .i32⟩
  | .hbm, ⟨50, _⟩ => ⟨S2048x2x1, .i1⟩
  | .hbm, ⟨51, _⟩ => ⟨S1x1x1, .i32⟩
  | .hbm, ⟨52, _⟩ => ⟨S2048x2x1, .i32⟩
  | .hbm, ⟨53, _⟩ => ⟨S2048x2x1, .i1⟩
  | .hbm, ⟨54, _⟩ => ⟨S2048x2x1, .i1⟩
  | .hbm, ⟨55, _⟩ => ⟨S_, .i1⟩
  | .hbm, ⟨56, _⟩ => ⟨S2048x2, .i1⟩
  | .hbm, ⟨57, _⟩ => ⟨S2048x2, .f32⟩
  | .hbm, ⟨58, _⟩ => ⟨S_, .f32⟩
  | .hbm, ⟨59, _⟩ => ⟨S2048x2, .f32⟩
  | .hbm, ⟨60, _⟩ => ⟨S2048x2, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2, .f32⟩
  | .hbm, ⟨68, _⟩ => ⟨S2048x2, .f32⟩
  | .hbm, ⟨69, _⟩ => ⟨S_, .f32⟩
  | .hbm, ⟨70, _⟩ => ⟨S2048x8, .f32⟩
  | .hbm, ⟨71, _⟩ => ⟨S2048, .i32⟩
  | .hbm, ⟨72, _⟩ => ⟨S2048x1, .i32⟩
  | .hbm, ⟨73, _⟩ => ⟨S_, .i32⟩
  | .hbm, ⟨74, _⟩ => ⟨S2048x1, .i32⟩
  | .hbm, ⟨75, _⟩ => ⟨S2048x1, .i1⟩
  | .hbm, ⟨76, _⟩ => ⟨S_, .i32⟩
  | .hbm, ⟨77, _⟩ => ⟨S2048x1, .i32⟩
  | .hbm, ⟨78, _⟩ => ⟨S2048x1, .i32⟩
  | .hbm, ⟨79, _⟩ => ⟨S2048x1, .i32⟩
  | .hbm, ⟨80, _⟩ => ⟨S_, .i32⟩
  | .hbm, ⟨81, _⟩ => ⟨S2048x2, .i32⟩
  | .hbm, ⟨82, _⟩ => ⟨S2048x2, .i1⟩
  | .hbm, ⟨83, _⟩ => ⟨S_, .i32⟩
  | .hbm, ⟨84, _⟩ => ⟨S2048x2, .i32⟩
  | .hbm, ⟨85, _⟩ => ⟨S2048x2, .i32⟩
  | .hbm, ⟨86, _⟩ => ⟨S2048x2, .i32⟩
  | .hbm, ⟨87, _⟩ => ⟨S2048x2, .i32⟩
  | .hbm, ⟨88, _⟩ => ⟨S2048x2x1, .i32⟩
  | .hbm, ⟨89, _⟩ => ⟨S2048x2x1, .i32⟩
  | .hbm, ⟨90, _⟩ => ⟨S2048x2x2, .i32⟩
  | .hbm, ⟨91, _⟩ => ⟨S2048x8, .f32⟩
  | .hbm, ⟨92, _⟩ => ⟨S8x1024x2048, .f32⟩
  | .hbm, ⟨93, _⟩ => ⟨S8x2048x1024, .f32⟩
  | .hbm, ⟨94, _⟩ => ⟨S8x1024x2048, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S8x2048x2048, .f32⟩
  | .hbm, ⟨107, _⟩ => ⟨S2048x2048, .f32⟩
  | .hbm, ⟨108, _⟩ => ⟨S1x2048x2048, .f32⟩
  | .hbm, ⟨109, _⟩ => ⟨S1x2048x2048, .f32⟩
  | .hbm, ⟨110, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values : Ref sig .tc := ⟨.hbm, 37, rfl⟩
abbrev main_indices : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_cst : Ref sig .tc := ⟨.hbm, 58, rfl⟩
abbrev main_call0_v14 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_6 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c : Ref sig .tc := ⟨.hbm, 73, rfl⟩
abbrev main_v35 : Ref sig .tc := ⟨.hbm, 74, rfl⟩
abbrev main_v36 : Ref sig .tc := ⟨.hbm, 75, rfl⟩
abbrev main_c_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_8 : Ref sig .tc := ⟨.hbm, 80, rfl⟩
abbrev main_v40 : Ref sig .tc := ⟨.hbm, 81, rfl⟩
abbrev main_v41 : Ref sig .tc := ⟨.hbm, 82, rfl⟩
abbrev main_c_9 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩

abbrev nD : Nat := 1
abbrev τ : Topo := Topo.v7x

variable {F : FTy → Type} [FloatOps F]
-- ==== Proof.MoeBase.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When each branch of the body runs -/

/-- The three grid coordinates of point `t`: expert, weight block, token block. -/
theorem coords_vals (t : Fin cfg0.N) : (grid0.coords t 0).val = t.val / 32 ∧ (grid0.coords t 1).val = t.val / 8 % 4
    ∧ (grid0.coords t 2).val = t.val % 8 ∧ t.val < 256 := by
  have ht : t.val < 256 := Nat.lt_of_lt_of_eq t.isLt N_0
  have e0 : (grid0.coords t 0).val = t.val / 32 % 8 := Pipeline.Grid.coords_val t 0 (by decide) rfl
  have e1 : (grid0.coords t 1).val = t.val / 8 % 4 := Pipeline.Grid.coords_val t 1 (by decide) rfl
  have e2 : (grid0.coords t 2).val = t.val / 1 % 8 := Pipeline.Grid.coords_val t 2 (by decide) rfl
  omega

/-- The weights are cast when the token block is the first. -/
abbrev castCond (i : grid0.Coords) : Prop :=
  (Scalar.cmpi .ne (Scalar.extui (Scalar.cmpi .eq (BitVec.ofNat 32 (i 2).val) 0#32)) 0#32) = 1#1

/-- The router runs on the first sweep over the token blocks. -/
theorem router_iff (t : Fin cfg0.N) : k0_cond1 (grid0.coords t) = 1#1 ↔ t.val < 8 := by
  obtain ⟨e0, e1, e2, ht⟩ := coords_vals t
  simp only [k0_cond1, e0, e1, e2]
  word_cmp

theorem cast_iff (t : Fin cfg0.N) : castCond (grid0.coords t) ↔ t.val % 8 = 0 := by
  obtain ⟨e0, e1, e2, ht⟩ := coords_vals t
  simp only [castCond, e0, e1, e2]
  word_cmp

/-- The output rows are initialised on the first sweep. -/
theorem init_iff (t : Fin cfg0.N) : k0_cond3 (grid0.coords t) = 1#1 ↔ t.val < 8 := by
  obtain ⟨e0, e1, e2, ht⟩ := coords_vals t
  simp only [k0_cond3, e0, e1, e2]
  word_cmp

/-- They are added to on every later one. -/
theorem acc_iff (t : Fin cfg0.N) : k0_cond4 (grid0.coords t) = 1#1 ↔ 8 ≤ t.val := by
  obtain ⟨e0, e1, e2, ht⟩ := coords_vals t
  simp only [k0_cond4, e0, e1, e2]
  word_cmp

/-! The staging memref of each window at a point, and that it is whole. -/
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x2048 .f32 := win0_7.stage (cfg0.slots t 7)
abbrev hs0_7 (t : Fin cfg0.N) : (ms0_7 t).IsWhole := hstage0_7 ((cfg0.slots t 7).cast nbuf0_7)
/-! The four scratch buffers: the combine table and the three weight blocks. -/
abbrev scM0_0 : Memref sig .tc .vmem S2048x128 .f32 := Memref.whole cc0_scratch0
abbrev scM0_1 : Memref sig .tc .vmem S2048x256 .bf16 := Memref.whole cc0_scratch1
abbrev scM0_2 : Memref sig .tc .vmem S2048x256 .bf16 := Memref.whole cc0_scratch2
abbrev scM0_3 : Memref sig .tc .vmem S256x2048 .bf16 := Memref.whole cc0_scratch3

/-- The region's own invariant, its scratch buffers held whole at some contents. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Moe

end
-- ==== Proof.MoeStep.lean ====
module

public import proofs.«01_k».proof.Proof.MoeBase

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 256 rows of the hidden states that the point works on. -/
def xrows (i : grid0.Coords) (x0 : Vec F S2048x2048 .f32) : Vec F S256x2048 .f32 :=
  VecWindow.window x0 (k0_off1 i) S256x2048.size (k0_off1_inb i)

/-- The rows of combine weights the router makes from them. -/
def combRows (i : grid0.Coords) (x0 : Vec F S2048x2048 .f32) (x1 : Vec F S1x2048 .f32) (x2 : Vec F S2048x128 .f32) (x3 : Vec F S1x128 .f32) : Vec F S256x128 .f32 :=
  k0_pay14 (k0_pay6 (k0_pay13 (xrows i x0) x1) x2 x3) (k0_pay7 (k0_pay13 (xrows i x0) x1) x2 x3) (k0_pay9 (k0_pay13 (xrows i x0) x1) x2 x3)
    (k0_pay10 (k0_pay13 (xrows i x0) x1) x2 x3) (k0_pay11 (k0_pay13 (xrows i x0) x1) x2 x3)

/-- The combine table after the router has stored its rows. -/
def combPut (i : grid0.Coords) (x0 : Vec F S2048x2048 .f32) (x1 : Vec F S1x2048 .f32) (x2 : Vec F S2048x128 .f32) (x3 : Vec F S1x128 .f32) (cb : Vec F S2048x128 .f32) : Vec F S2048x128 .f32 :=
  VecWindow.put cb (k0_off2 i) S256x128.size (combRows i x0 x1 x2 x3)

/-- The rows of the combine table that the point reads. -/
def combGet (i : grid0.Coords) (cb : Vec F S2048x128 .f32) : Vec F S256x128 .f32 :=
  VecWindow.window cb (k0_off3 i) S256x128.size (k0_off3_inb i)

/-- The output after a point of the first sweep: the rows set to the hidden states plus the first contribution. -/
def outFirst (i : grid0.Coords) (x0 : Vec F S2048x2048 .f32) (x1 : Vec F S1x2048 .f32) (gb ub : Vec F S2048x256 .bf16) (db : Vec F S256x2048 .bf16) (cr : Vec F S256x128 .f32) (y : Vec F S2048x2048 .f32) : Vec F S2048x2048 .f32 :=
  VecWindow.put y (k0_off4 i) S256x2048.size (k0_pay2 (BitVec.ofNat 32 (i 0).val) (k0_pay12 (xrows i x0)) (k0_pay18 (xrows i x0) x1 gb ub) db cr)

/-- The output after a point of a later sweep: the contribution added to the rows. -/
def outAdd (i : grid0.Coords) (h : k0_cond4 i = 1#1) (x0 : Vec F S2048x2048 .f32) (x1 : Vec F S1x2048 .f32) (gb ub : Vec F S2048x256 .bf16) (db : Vec F S256x2048 .bf16) (cr : Vec F S256x128 .f32) (y : Vec F S2048x2048 .f32) : Vec F S2048x2048 .f32 :=
  VecWindow.put y (k0_off5 i) S256x2048.size (k0_pay3 (BitVec.ofNat 32 (i 0).val) (k0_pay18 (xrows i x0) x1 gb ub) db cr
    (VecWindow.window y (k0_off5 i) S256x2048.size (k0_off5_inb i h)))

/-- A load of the rows just stored reads what was stored. -/
theorem readCov_same {sig : RefSig} {κ : Kind} {sp : Space} {s : Shape} {e : EltTy} {Val : EltTy → Type} [∀ e, Nonempty (Val e)] (v : View sig κ sp s e)
    {off size : Fin s.rank → ℕ} (inb inb' : ∀ a, off a + size a ≤ s.size a) (w : (Rect.unit off size inb').shape.Idx → Val e) (L : List (View.Piece Val s e)) :
    v.readCov (⟨Rect.unit off size inb', w⟩ :: L) (Rect.unit off size inb).toLoadRect = w := by
  show v.readAt Val _ (v.writes Val v.junk _) = w
  rw [View.readAt_unit v _ inb rfl inb, View.read_writes_cons_put v _ inb' w L rfl]
  exact VecWindow.window_put_same _ _ _ _ _

/-- The twelve buffers of the body, each held whole at the given contents. -/
def Held (c : Dev nD) (arg3 : Memref sig .tc .vmem S2048x2048 .f32) (arg4 : Memref sig .tc .vmem S1x2048 .f32) (arg5 : Memref sig .tc .vmem S2048x128 .f32) (arg6 : Memref sig .tc .vmem S1x128 .f32) (arg7 : Memref sig .tc .vmem S1x2048x256 .f32) (arg8 : Memref sig .tc .vmem S1x2048x256 .f32) (arg9 : Memref sig .tc .vmem S1x256x2048 .f32) (arg10 : Memref sig .tc .vmem S2048x2048 .f32) (arg11 : Memref sig .tc .vmem S2048x128 .f32) (arg12 : Memref sig .tc .vmem S2048x256 .bf16) (arg13 : Memref sig .tc .vmem S2048x256 .bf16) (arg14 : Memref sig .tc .vmem S256x2048 .bf16)
    (x0 : Vec F S2048x2048 .f32) (x1 : Vec F S1x2048 .f32) (x2 : Vec F S2048x128 .f32) (x3 : Vec F S1x128 .f32) (x4 : Vec F S1x2048x256 .f32) (x5 : Vec F S1x2048x256 .f32) (x6 : Vec F S1x256x2048 .f32)
    (y : Vec F S2048x2048 .f32) (cb : Vec F S2048x128 .f32) (gb : Vec F S2048x256 .bf16) (ub : Vec F S2048x256 .bf16) (db : Vec F S256x2048 .bf16) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y ∗ owns (c : Thread nD τ) arg11 fullShare cb ∗ owns (c : Thread nD τ) arg12 fullShare gb ∗ owns (c : Thread nD τ) arg13 fullShare ub ∗ owns (c : Thread nD τ) arg14 fullShare db)

/-- Equal parts give equal router rows. -/
theorem combRows_congr (i : grid0.Coords) {x0 : Vec F S2048x2048 .f32} {x1 : Vec F S1x2048 .f32} {x2 : Vec F S2048x128 .f32} {x3 : Vec F S1x128 .f32}
    {a0 : Vec F S256x2048 .f32} {a1 : Vec F S1x2048 .f32} {a2 : Vec F S2048x128 .f32} {a3 : Vec F S1x128 .f32}
    (h0 : a0 = xrows i x0) (h1 : a1 = x1) (h2 : a2 = x2) (h3 : a3 = x3) :
    k0_pay14 (k0_pay6 (k0_pay13 a0 a1) a2 a3) (k0_pay7 (k0_pay13 a0 a1) a2 a3) (k0_pay9 (k0_pay13 a0 a1) a2 a3)
      (k0_pay10 (k0_pay13 a0 a1) a2 a3) (k0_pay11 (k0_pay13 a0 a1) a2 a3) = combRows i x0 x1 x2 x3 := by
  subst h0 h1 h2 h3; rfl

/-- The stored router rows, read off the list of stores. -/
theorem combPut_congr (i : grid0.Coords) (arg11 : Memref sig .tc .vmem S2048x128 .f32) (harg11 : arg11.IsWhole) (cb : Vec F S2048x128 .f32)
    {x0 : Vec F S2048x2048 .f32} {x1 : Vec F S1x2048 .f32} {x2 : Vec F S2048x128 .f32} {x3 : Vec F S1x128 .f32} (inb : ∀ a, k0_off2 i a + S256x128.size a ≤ S2048x128.size a)
    {w : Vec F S256x128 .f32} (h : w = combRows i x0 x1 x2 x3) :
    arg11.view.read (Elt F) (arg11.view.writes (Elt F) (harg11.unread cb) [⟨Rect.unit (k0_off2 i) S256x128.size inb, w⟩]) = combPut i x0 x1 x2 x3 cb := by
  subst h
  refine (View.read_writes_cons_put _ _ _ _ _ rfl).trans ?_
  rw [View.writes_nil, harg11.read_unread]; rfl

/-- The output rows stored by a point of the first sweep. -/
theorem outFirst_congr (i : grid0.Coords) (arg10 : Memref sig .tc .vmem S2048x2048 .f32) (harg10 : arg10.IsWhole) (y : Vec F S2048x2048 .f32)
    {x0 : Vec F S2048x2048 .f32} {x1 : Vec F S1x2048 .f32} {gb ub : Vec F S2048x256 .bf16} {db : Vec F S256x2048 .bf16} {cr : Vec F S256x128 .f32}
    (inb : ∀ a, k0_off4 i a + S256x2048.size a ≤ S2048x2048.size a)
    {a0 : FVec F S256x2048 .f32} {a1 : FVec F S256x256 .bf16} {a2 : Vec F S256x2048 .bf16} {a3 : Vec F S256x128 .f32}
    (h0 : a0 = k0_pay12 (xrows i x0)) (h1 : a1 = k0_pay18 (xrows i x0) x1 gb ub) (h2 : a2 = db) (h3 : a3 = cr) :
    arg10.view.read (Elt F) (arg10.view.writes (Elt F) (harg10.unread y) [⟨Rect.unit (k0_off4 i) S256x2048.size inb, k0_pay2 (BitVec.ofNat 32 (i 0).val) a0 a1 a2 a3⟩])
      = outFirst i x0 x1 gb ub db cr y := by
  subst h0 h1 h2 h3
  refine (View.read_writes_cons_put _ _ _ _ _ rfl).trans ?_
  rw [View.writes_nil, harg10.read_unread]; rfl

/-- The output rows stored by a point of a later sweep. -/
theorem outAdd_congr (i : grid0.Coords) (h : k0_cond4 i = 1#1) (arg10 : Memref sig .tc .vmem S2048x2048 .f32) (harg10 : arg10.IsWhole) (y : Vec F S2048x2048 .f32)
    {x0 : Vec F S2048x2048 .f32} {x1 : Vec F S1x2048 .f32} {gb ub : Vec F S2048x256 .bf16} {db : Vec F S256x2048 .bf16} {cr : Vec F S256x128 .f32}
    (inb : ∀ a, k0_off5 i a + S256x2048.size a ≤ S2048x2048.size a)
    {a1 : FVec F S256x256 .bf16} {a2 : Vec F S256x2048 .bf16} {a3 : Vec F S256x128 .f32} {a4 : Vec F S256x2048 .f32}
    (h1 : a1 = k0_pay18 (xrows i x0) x1 gb ub) (h2 : a2 = db) (h3 : a3 = cr) (h4 : a4 = VecWindow.window y (k0_off5 i) S256x2048.size (k0_off5_inb i h)) :
    arg10.view.read (Elt F) (arg10.view.writes (Elt F) (harg10.unread y) [⟨Rect.unit (k0_off5 i) S256x2048.size inb, k0_pay3 (BitVec.ofNat 32 (i 0).val) a1 a2 a3 a4⟩])
      = outAdd i h x0 x1 gb ub db cr y := by
  subst h1 h2 h3 h4
  refine (View.read_writes_cons_put _ _ _ _ _ rfl).trans ?_
  rw [View.writes_nil, harg10.read_unread]; rfl

/-- A load of rows from a buffer held at known contents is a window of the contents. -/
theorem load_rows {s : Shape} {e : EltTy} {arg : Memref sig .tc .vmem s e} (harg : arg.IsWhole) (x : Vec F s e) {off size : Fin s.rank → ℕ}
    (inb inb' : ∀ a, off a + size a ≤ s.size a) :
    arg.view.readAt (Elt F) (Rect.unit off size inb).toLoadRect (harg.unread x) = VecWindow.window x off size inb' := by
  rw [View.readAt_unit _ _ inb rfl inb', harg.read_unread]

/-- Equal parts give equal hidden blocks. -/
theorem hidden_congr {a0 b0 : Vec F S256x2048 .f32} {a1 b1 : Vec F S1x2048 .f32} {a2 b2 a3 b3 : Vec F S2048x256 .bf16}
    (h0 : a0 = b0) (h1 : a1 = b1) (h2 : a2 = b2) (h3 : a3 = b3) : k0_pay18 a0 a1 a2 a3 = k0_pay18 b0 b1 b2 b3 := by
  subst h0 h1 h2 h3; rfl

end Cert.KernelIdeal.Moe

end
-- ==== Proof.MoeInv.lean ====
module

public import proofs.«01_k».proof.Proof.MoeStep

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The offsets in closed form -/

theorem rowOff : ∀ k : Fin 8, (Scalar.indexCast (Scalar.muli (BitVec.ofNat 32 k.val) 256#32)).toNat = 256 * k.val := by decide

/-- The token block of a point. -/
def tb (t : Fin cfg0.N) : Fin 8 := ⟨t.val % 8, Nat.mod_lt _ (by decide)⟩

theorem off1_eq (t : Fin cfg0.N) : k0_off1 (grid0.coords t) = ![256 * (tb t).val, 0] := by
  have e2 : (grid0.coords t 2).val = (tb t).val := (coords_vals t).2.2.1
  show ![(Scalar.indexCast (Scalar.muli (BitVec.ofNat 32 (grid0.coords t 2).val) 256#32)).toNat, 0] = _
  rw [e2, rowOff (tb t)]

theorem off2_eq (t : Fin cfg0.N) : k0_off2 (grid0.coords t) = ![256 * (tb t).val, 0] := off1_eq t
theorem off3_eq (t : Fin cfg0.N) : k0_off3 (grid0.coords t) = ![256 * (tb t).val, 0] := off1_eq t
theorem off4_eq (t : Fin cfg0.N) : k0_off4 (grid0.coords t) = ![256 * (tb t).val, 0] := off1_eq t
theorem off5_eq (t : Fin cfg0.N) : k0_off5 (grid0.coords t) = ![256 * (tb t).val, 0] := off1_eq t

theorem inbRows (b : Fin 8) : ∀ a, (![256 * b.val, 0] : Fin 2 → ℕ) a + S256x2048.size a ≤ S2048x2048.size a :=
  Fin.forall_fin_two.mpr ⟨by show 256 * b.val + 256 ≤ 2048; omega, by show 0 + 2048 ≤ 2048; omega⟩

theorem inbComb (b : Fin 8) : ∀ a, (![256 * b.val, 0] : Fin 2 → ℕ) a + S256x128.size a ≤ S2048x128.size a :=
  Fin.forall_fin_two.mpr ⟨by show 256 * b.val + 256 ≤ 2048; omega, by show 0 + 128 ≤ 128; omega⟩

/-- The rows of token block `b` of an array of 2048 columns. -/
def rows (b : Fin 8) (y : Vec F S2048x2048 .f32) : Vec F S256x2048 .f32 :=
  VecWindow.window y ![256 * b.val, 0] S256x2048.size (inbRows b)

/-- The rows of token block `b` of the combine table. -/
def crows (b : Fin 8) (y : Vec F S2048x128 .f32) : Vec F S256x128 .f32 :=
  VecWindow.window y ![256 * b.val, 0] S256x128.size (inbComb b)

theorem window_off {α : Type} {s : Shape} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

theorem xrows_eq (t : Fin cfg0.N) (x0 : Vec F S2048x2048 .f32) : xrows (grid0.coords t) x0 = rows (tb t) x0 :=
  window_off x0 (off1_eq t) _ _

theorem combGet_eq (t : Fin cfg0.N) (cb : Vec F S2048x128 .f32) : combGet (grid0.coords t) cb = crows (tb t) cb :=
  window_off cb (off3_eq t) _ _

theorem rows_put (b b' : Fin 8) (y : Vec F S2048x2048 .f32) (w : Vec F S256x2048 .f32) {off : Fin 2 → ℕ} (h : off = ![256 * b'.val, 0]) :
    rows b (VecWindow.put y off S256x2048.size w) = if b = b' then w else rows b y := by
  subst h
  by_cases e : b = b'
  · subst e; rw [if_pos rfl]; exact VecWindow.window_put_same _ _ _ _ _
  · rw [if_neg e]
    refine VecWindow.window_put_of_disjoint _ _ _ _ _ _ _ (0 : Fin 2) ?_
    show 256 * b.val + 256 ≤ 256 * b'.val ∨ 256 * b'.val + 256 ≤ 256 * b.val
    have : b.val ≠ b'.val := fun h => e (Fin.ext h)
    omega

theorem crows_put (b b' : Fin 8) (y : Vec F S2048x128 .f32) (w : Vec F S256x128 .f32) {off : Fin 2 → ℕ} (h : off = ![256 * b'.val, 0]) :
    crows b (VecWindow.put y off S256x128.size w) = if b = b' then w else crows b y := by
  subst h
  by_cases e : b = b'
  · subst e; rw [if_pos rfl]; exact VecWindow.window_put_same _ _ _ _ _
  · rw [if_neg e]
    refine VecWindow.window_put_of_disjoint _ _ _ _ _ _ _ (0 : Fin 2) ?_
    show 256 * b.val + 256 ≤ 256 * b'.val ∨ 256 * b'.val + 256 ≤ 256 * b.val
    have : b.val ≠ b'.val := fun h => e (Fin.ext h)
    omega

/-! ## What the buffers hold after a number of points -/

/-- The operands of the region: hidden states, norm weights, padded router weights and bias, and the weight blocks by
    step (expert times four plus block). -/
structure Blocks (F : FTy → Type) where
  x0 : Vec F S2048x2048 .f32
  x1 : Vec F S1x2048 .f32
  x2 : Vec F S2048x128 .f32
  x3 : Vec F S1x128 .f32
  g : ℕ → Vec F S1x2048x256 .f32
  u : ℕ → Vec F S1x2048x256 .f32
  w : ℕ → Vec F S1x256x2048 .f32

namespace Blocks

variable (B : Blocks F)

/-- The hidden block of token block `b` at step `q`. -/
def hid (b : Fin 8) (q : ℕ) : FVec F S256x256 .bf16 :=
  k0_pay18 (rows b B.x0) B.x1 (k0_pay15 (B.g q)) (k0_pay16 (B.u q))

/-- The combine weights of token block `b`. -/
def comb (b : Fin 8) : Vec F S256x128 .f32 :=
  k0_pay14 (k0_pay6 (k0_pay13 (rows b B.x0) B.x1) B.x2 B.x3) (k0_pay7 (k0_pay13 (rows b B.x0) B.x1) B.x2 B.x3) (k0_pay9 (k0_pay13 (rows b B.x0) B.x1) B.x2 B.x3)
    (k0_pay10 (k0_pay13 (rows b B.x0) B.x1) B.x2 B.x3) (k0_pay11 (k0_pay13 (rows b B.x0) B.x1) B.x2 B.x3)

/-- The output rows of token block `b` after step `q`. -/
def acc (b : Fin 8) : ℕ → Vec F S256x2048 .f32
  | 0 => k0_pay2 (BitVec.ofNat 32 0) (k0_pay12 (rows b B.x0)) (B.hid b 0) (k0_pay17 (B.w 0)) (B.comb b)
  | q + 1 => k0_pay3 (BitVec.ofNat 32 ((q + 1) / 4)) (B.hid b (q + 1)) (k0_pay17 (B.w (q + 1))) (B.comb b) (acc b q)

/-- After `n` points, each token block visited holds its running sum. -/
def OutOK (n : ℕ) (y : Vec F S2048x2048 .f32) : Prop :=
  ∀ b : Fin 8, b.val < n → rows b y = B.acc b ((n - 1 - b.val) / 8)

/-- After `n` points, each token block visited has its combine weights. -/
def CombOK (n : ℕ) (cb : Vec F S2048x128 .f32) : Prop :=
  ∀ b : Fin 8, b.val < n → crows b cb = B.comb b

/-- After `n` points, the cast weight blocks are those of the last step. -/
def CastOK (n : ℕ) (gb ub : Vec F S2048x256 .bf16) (db : Vec F S256x2048 .bf16) : Prop :=
  0 < n → gb = k0_pay15 (B.g ((n - 1) / 8)) ∧ ub = k0_pay16 (B.u ((n - 1) / 8)) ∧ db = k0_pay17 (B.w ((n - 1) / 8))

theorem combRows_eq (t : Fin cfg0.N) : combRows (grid0.coords t) B.x0 B.x1 B.x2 B.x3 = B.comb (tb t) := by
  unfold combRows comb; rw [xrows_eq]

theorem outOK_first (t : Fin cfg0.N) (ht : t.val < 8) {y : Vec F S2048x2048 .f32} (hy : B.OutOK t.val y)
    {gb ub : Vec F S2048x256 .bf16} {db : Vec F S256x2048 .bf16} (hw : B.CastOK (t.val + 1) gb ub db) :
    B.OutOK (t.val + 1) (outFirst (grid0.coords t) B.x0 B.x1 gb ub db (combRows (grid0.coords t) B.x0 B.x1 B.x2 B.x3) y) := by
  obtain ⟨rfl, rfl, rfl⟩ := hw (Nat.succ_pos _)
  have e0 : (grid0.coords t 0).val = 0 := by have := (coords_vals t).1; omega
  have eq : (t.val + 1 - 1) / 8 = 0 := by omega
  intro b hb
  unfold outFirst
  rw [rows_put b (tb t) _ _ (off4_eq t), combRows_eq, xrows_eq, e0, eq]
  have ebt : (tb t).val = t.val := by show t.val % 8 = t.val; omega
  by_cases e : b = tb t
  · subst e
    rw [if_pos rfl, show (t.val + 1 - 1 - (tb t).val) / 8 = 0 by omega]
    rfl
  · have hne : b.val ≠ (tb t).val := fun h => e (Fin.ext h)
    rw [if_neg e, hy b (by omega)]
    congr 1; omega

theorem outOK_add (t : Fin cfg0.N) (ht : 8 ≤ t.val) (h : k0_cond4 (grid0.coords t) = 1#1) {y : Vec F S2048x2048 .f32} (hy : B.OutOK t.val y)
    {gb ub : Vec F S2048x256 .bf16} {db : Vec F S256x2048 .bf16} (hw : B.CastOK (t.val + 1) gb ub db) {cb : Vec F S2048x128 .f32} (hc : B.CombOK t.val cb) :
    B.OutOK (t.val + 1) (outAdd (grid0.coords t) h B.x0 B.x1 gb ub db (combGet (grid0.coords t) cb) y) := by
  obtain ⟨rfl, rfl, rfl⟩ := hw (Nat.succ_pos _)
  have ebt : (tb t).val = t.val % 8 := rfl
  have e0 : (grid0.coords t 0).val = t.val / 8 / 4 := by have := (coords_vals t).1; omega
  obtain ⟨q, hq⟩ : ∃ q, t.val / 8 = q + 1 := ⟨t.val / 8 - 1, by omega⟩
  have ew : VecWindow.window y (k0_off5 (grid0.coords t)) S256x2048.size (k0_off5_inb (grid0.coords t) h) = B.acc (tb t) q := by
    rw [window_off y (off5_eq t) _ (inbRows (tb t))]
    refine (hy (tb t) (by omega)).trans ?_
    congr 1; omega
  intro b hb
  unfold outAdd
  rw [rows_put b (tb t) _ _ (off5_eq t), combGet_eq, hc (tb t) (by omega), xrows_eq, e0, ew, show (t.val + 1 - 1) / 8 = q + 1 by omega, hq]
  by_cases e : b = tb t
  · subst e
    rw [if_pos rfl, show (t.val + 1 - 1 - (tb t).val) / 8 = q + 1 by omega]
    rfl
  · have hne : b.val ≠ (tb t).val := fun h => e (Fin.ext h)
    rw [if_neg e, hy b (by omega)]
    congr 1; omega

theorem combOK_put (t : Fin cfg0.N) (ht : t.val < 8) {cb : Vec F S2048x128 .f32} (hc : B.CombOK t.val cb) :
    B.CombOK (t.val + 1) (combPut (grid0.coords t) B.x0 B.x1 B.x2 B.x3 cb) := by
  intro b hb
  unfold combPut
  rw [crows_put b (tb t) _ _ (off2_eq t), combRows_eq]
  have ebt : (tb t).val = t.val := by show t.val % 8 = t.val; omega
  by_cases e : b = tb t
  · subst e; rw [if_pos rfl]
  · have hne : b.val ≠ (tb t).val := fun h => e (Fin.ext h)
    rw [if_neg e, hc b (by omega)]

theorem combOK_keep (n : ℕ) (hn : 8 ≤ n) {cb : Vec F S2048x128 .f32} (hc : B.CombOK n cb) : B.CombOK (n + 1) cb :=
  fun b _ => hc b (by omega)

theorem castOK_keep (n : ℕ) (hn : n % 8 ≠ 0) {gb ub : Vec F S2048x256 .bf16} {db : Vec F S256x2048 .bf16} (h : B.CastOK n gb ub db) :
    B.CastOK (n + 1) gb ub db := fun _ => by
  have := h (by omega)
  rwa [show (n + 1 - 1) / 8 = (n - 1) / 8 by omega]

theorem castOK_new (t : ℕ) : B.CastOK (t + 1) (k0_pay15 (B.g (t / 8))) (k0_pay16 (B.u (t / 8))) (k0_pay17 (B.w (t / 8))) :=
  fun _ => ⟨rfl, rfl, rfl⟩

end Blocks

end Cert.KernelIdeal.Moe

end
-- ==== Proof.MoeRunA.lean ====
module

public import proofs.«01_k».proof.Proof.MoeStep

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: the router runs, the weights are cast, the output rows are set. -/
theorem run_A (c : Dev nD) (i : grid0.Coords) (arg3 : Memref sig .tc .vmem S2048x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x256x2048 .f32) (harg9 : arg9.IsWhole) (arg10 : Memref sig .tc .vmem S2048x2048 .f32) (harg10 : arg10.IsWhole) (arg11 : Memref sig .tc .vmem S2048x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S256x2048 .bf16) (harg14 : arg14.IsWhole) (hc0 : k0_cond1 i = 1#1) (hc1 : castCond i) (hc2 : k0_cond3 i = 1#1) (hc3 : ¬ k0_cond4 i = 1#1)
    (x0 : Vec F S2048x2048 .f32) (x1 : Vec F S1x2048 .f32) (x2 : Vec F S2048x128 .f32) (x3 : Vec F S1x128 .f32) (x4 : Vec F S1x2048x256 .f32) (x5 : Vec F S1x2048x256 .f32) (x6 : Vec F S1x256x2048 .f32)
    (y : Vec F S2048x2048 .f32) (cb : Vec F S2048x128 .f32) (gb : Vec F S2048x256 .bf16) (ub : Vec F S2048x256 .bf16) (db : Vec F S256x2048 .bf16) (E : Set ℕ) (K : PUnit → sProp 𝕄) :
        iprop(Held c arg3 arg4 arg5 arg6 arg7 arg8 arg9 arg10 arg11 arg12 arg13 arg14 x0 x1 x2 x3 x4 x5 x6 y cb gb ub db
            ∗ (Held c arg3 arg4 arg5 arg6 arg7 arg8 arg9 arg10 arg11 arg12 arg13 arg14 x0 x1 x2 x3 x4 x5 x6 (outFirst i x0 x1 (k0_pay15 x4) (k0_pay16 x5) (k0_pay17 x6) (combRows i x0 x1 x2 x3) y) (combPut i x0 x1 x2 x3 cb) (k0_pay15 x4) (k0_pay16 x5) (k0_pay17 x6) -∗ K ⟨⟩))
          ⊢ wp frame (wpE (defs₀ (F := F)) Variants.none c none) E (cc0__moe_body i arg3 harg3 arg4 harg4 arg5 harg5 arg6 harg6 arg7 harg7 arg8 harg8 arg9 harg9 arg10 harg10 arg11 harg11 arg12 harg12 arg13 harg13 arg14 harg14) K := by
  simp only [cc0__moe_body_eq_skeleton]; unfold cc0__moe_body_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hs0, HS0⟩, ⟨%fs1, %hs1, HS1⟩, ⟨%fs2, %hs2, HS2⟩, ⟨%fs3, %hs3, HS3⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg10.eq_unread hf7; obtain rfl := harg11.eq_unread hs0; obtain rfl := harg12.eq_unread hs1; obtain rfl := harg13.eq_unread hs2; obtain rfl := harg14.eq_unread hs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact outFirst_congr i arg10 harg10 y _ (congrArg k0_pay12 (load_rows harg3 x0 _ _)) (hidden_congr (load_rows harg3 x0 _ _) ((View.readAt_full _ _ _).trans (harg4.read_unread _)) ((View.readCov_full _ _ _ _ _).trans (congrArg k0_pay15 ((View.readAt_full _ _ _).trans (harg7.read_unread _)))) ((View.readCov_full _ _ _ _ _).trans (congrArg k0_pay16 ((View.readAt_full _ _ _).trans (harg8.read_unread _))))) ((View.readCov_full _ _ _ _ _).trans (congrArg k0_pay17 ((View.readAt_full _ _ _).trans (harg9.read_unread _)))) ((readCov_same _ _ _ _ _).trans (combRows_congr i (load_rows harg3 x0 _ _) ((View.readAt_full _ _ _).trans (harg4.read_unread _)) ((View.readAt_full _ _ _).trans (harg5.read_unread _)) ((View.readAt_full _ _ _).trans (harg6.read_unread _))))
  isplitl [HS0]
  · iexists _; isplitr; swap; · iexact HS0
    ipureintro
    exact combPut_congr i arg11 harg11 cb _ (combRows_congr i (load_rows harg3 x0 _ _) ((View.readAt_full _ _ _).trans (harg4.read_unread _)) ((View.readAt_full _ _ _).trans (harg5.read_unread _)) ((View.readAt_full _ _ _).trans (harg6.read_unread _)))
  isplitl [HS1]
  · iexists _; isplitr; swap; · iexact HS1
    ipureintro
    exact (View.read_writes_full _ _ _ _ _).trans (congrArg k0_pay15 ((View.readAt_full _ _ _).trans (harg7.read_unread _)))
  isplitl [HS2]
  · iexists _; isplitr; swap; · iexact HS2
    ipureintro
    exact (View.read_writes_full _ _ _ _ _).trans (congrArg k0_pay16 ((View.readAt_full _ _ _).trans (harg8.read_unread _)))
  iexists _; isplitr; swap; · iexact HS3
  ipureintro
  exact (View.read_writes_full _ _ _ _ _).trans (congrArg k0_pay17 ((View.readAt_full _ _ _).trans (harg9.read_unread _)))

end Cert.KernelIdeal.Moe

end
-- ==== Proof.MoeRunB.lean ====
module

public import proofs.«01_k».proof.Proof.MoeStep

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point of the first sweep: the router runs and the output rows are set. -/
theorem run_B (c : Dev nD) (i : grid0.Coords) (arg3 : Memref sig .tc .vmem S2048x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x256x2048 .f32) (harg9 : arg9.IsWhole) (arg10 : Memref sig .tc .vmem S2048x2048 .f32) (harg10 : arg10.IsWhole) (arg11 : Memref sig .tc .vmem S2048x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S256x2048 .bf16) (harg14 : arg14.IsWhole) (hc0 : k0_cond1 i = 1#1) (hc1 : ¬ castCond i) (hc2 : k0_cond3 i = 1#1) (hc3 : ¬ k0_cond4 i = 1#1)
    (x0 : Vec F S2048x2048 .f32) (x1 : Vec F S1x2048 .f32) (x2 : Vec F S2048x128 .f32) (x3 : Vec F S1x128 .f32) (x4 : Vec F S1x2048x256 .f32) (x5 : Vec F S1x2048x256 .f32) (x6 : Vec F S1x256x2048 .f32)
    (y : Vec F S2048x2048 .f32) (cb : Vec F S2048x128 .f32) (gb : Vec F S2048x256 .bf16) (ub : Vec F S2048x256 .bf16) (db : Vec F S256x2048 .bf16) (E : Set ℕ) (K : PUnit → sProp 𝕄) :
        iprop(Held c arg3 arg4 arg5 arg6 arg7 arg8 arg9 arg10 arg11 arg12 arg13 arg14 x0 x1 x2 x3 x4 x5 x6 y cb gb ub db
            ∗ (Held c arg3 arg4 arg5 arg6 arg7 arg8 arg9 arg10 arg11 arg12 arg13 arg14 x0 x1 x2 x3 x4 x5 x6 (outFirst i x0 x1 gb ub db (combRows i x0 x1 x2 x3) y) (combPut i x0 x1 x2 x3 cb) gb ub db -∗ K ⟨⟩))
          ⊢ wp frame (wpE (defs₀ (F := F)) Variants.none c none) E (cc0__moe_body i arg3 harg3 arg4 harg4 arg5 harg5 arg6 harg6 arg7 harg7 arg8 harg8 arg9 harg9 arg10 harg10 arg11 harg11 arg12 harg12 arg13 harg13 arg14 harg14) K := by
  simp only [cc0__moe_body_eq_skeleton]; unfold cc0__moe_body_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hs0, HS0⟩, ⟨%fs1, %hs1, HS1⟩, ⟨%fs2, %hs2, HS2⟩, ⟨%fs3, %hs3, HS3⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg10.eq_unread hf7; obtain rfl := harg11.eq_unread hs0; obtain rfl := harg12.eq_unread hs1; obtain rfl := harg13.eq_unread hs2; obtain rfl := harg14.eq_unread hs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact outFirst_congr i arg10 harg10 y _ (congrArg k0_pay12 (load_rows harg3 x0 _ _)) (hidden_congr (load_rows harg3 x0 _ _) ((View.readAt_full _ _ _).trans (harg4.read_unread _)) ((View.readAt_full _ _ _).trans (harg12.read_unread _)) ((View.readAt_full _ _ _).trans (harg13.read_unread _))) ((View.readAt_full _ _ _).trans (harg14.read_unread _)) ((readCov_same _ _ _ _ _).trans (combRows_congr i (load_rows harg3 x0 _ _) ((View.readAt_full _ _ _).trans (harg4.read_unread _)) ((View.readAt_full _ _ _).trans (harg5.read_unread _)) ((View.readAt_full _ _ _).trans (harg6.read_unread _))))
  isplitl [HS0]
  · iexists _; isplitr; swap; · iexact HS0
    ipureintro
    exact combPut_congr i arg11 harg11 cb _ (combRows_congr i (load_rows harg3 x0 _ _) ((View.readAt_full _ _ _).trans (harg4.read_unread _)) ((View.readAt_full _ _ _).trans (harg5.read_unread _)) ((View.readAt_full _ _ _).trans (harg6.read_unread _)))
  isplitl [HS1]
  · iexists _; isplitr; swap; · iexact HS1
    ipureintro
    exact harg12.read_unread _
  isplitl [HS2]
  · iexists _; isplitr; swap; · iexact HS2
    ipureintro
    exact harg13.read_unread _
  iexists _; isplitr; swap; · iexact HS3
  ipureintro
  exact harg14.read_unread _

end Cert.KernelIdeal.Moe

end
-- ==== Proof.MoeRunC.lean ====
module

public import proofs.«01_k».proof.Proof.MoeStep

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first token block of a later sweep: the weights are cast and the output rows are added to. -/
theorem run_C (c : Dev nD) (i : grid0.Coords) (arg3 : Memref sig .tc .vmem S2048x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x256x2048 .f32) (harg9 : arg9.IsWhole) (arg10 : Memref sig .tc .vmem S2048x2048 .f32) (harg10 : arg10.IsWhole) (arg11 : Memref sig .tc .vmem S2048x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S256x2048 .bf16) (harg14 : arg14.IsWhole) (hc0 : ¬ k0_cond1 i = 1#1) (hc1 : castCond i) (hc2 : ¬ k0_cond3 i = 1#1) (hc3 : k0_cond4 i = 1#1)
    (x0 : Vec F S2048x2048 .f32) (x1 : Vec F S1x2048 .f32) (x2 : Vec F S2048x128 .f32) (x3 : Vec F S1x128 .f32) (x4 : Vec F S1x2048x256 .f32) (x5 : Vec F S1x2048x256 .f32) (x6 : Vec F S1x256x2048 .f32)
    (y : Vec F S2048x2048 .f32) (cb : Vec F S2048x128 .f32) (gb : Vec F S2048x256 .bf16) (ub : Vec F S2048x256 .bf16) (db : Vec F S256x2048 .bf16) (E : Set ℕ) (K : PUnit → sProp 𝕄) :
        iprop(Held c arg3 arg4 arg5 arg6 arg7 arg8 arg9 arg10 arg11 arg12 arg13 arg14 x0 x1 x2 x3 x4 x5 x6 y cb gb ub db
            ∗ (Held c arg3 arg4 arg5 arg6 arg7 arg8 arg9 arg10 arg11 arg12 arg13 arg14 x0 x1 x2 x3 x4 x5 x6 (outAdd i hc3 x0 x1 (k0_pay15 x4) (k0_pay16 x5) (k0_pay17 x6) (combGet i cb) y) cb (k0_pay15 x4) (k0_pay16 x5) (k0_pay17 x6) -∗ K ⟨⟩))
          ⊢ wp frame (wpE (defs₀ (F := F)) Variants.none c none) E (cc0__moe_body i arg3 harg3 arg4 harg4 arg5 harg5 arg6 harg6 arg7 harg7 arg8 harg8 arg9 harg9 arg10 harg10 arg11 harg11 arg12 harg12 arg13 harg13 arg14 harg14) K := by
  simp only [cc0__moe_body_eq_skeleton]; unfold cc0__moe_body_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hs0, HS0⟩, ⟨%fs1, %hs1, HS1⟩, ⟨%fs2, %hs2, HS2⟩, ⟨%fs3, %hs3, HS3⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg10.eq_unread hf7; obtain rfl := harg11.eq_unread hs0; obtain rfl := harg12.eq_unread hs1; obtain rfl := harg13.eq_unread hs2; obtain rfl := harg14.eq_unread hs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact outAdd_congr i hc3 arg10 harg10 y _ (hidden_congr (load_rows harg3 x0 _ _) ((View.readAt_full _ _ _).trans (harg4.read_unread _)) ((View.readCov_full _ _ _ _ _).trans (congrArg k0_pay15 ((View.readAt_full _ _ _).trans (harg7.read_unread _)))) ((View.readCov_full _ _ _ _ _).trans (congrArg k0_pay16 ((View.readAt_full _ _ _).trans (harg8.read_unread _))))) ((View.readCov_full _ _ _ _ _).trans (congrArg k0_pay17 ((View.readAt_full _ _ _).trans (harg9.read_unread _)))) (load_rows harg11 cb _ _) (load_rows harg10 y _ _)
  isplitl [HS0]
  · iexists _; isplitr; swap; · iexact HS0
    ipureintro
    exact harg11.read_unread _
  isplitl [HS1]
  · iexists _; isplitr; swap; · iexact HS1
    ipureintro
    exact (View.read_writes_full _ _ _ _ _).trans (congrArg k0_pay15 ((View.readAt_full _ _ _).trans (harg7.read_unread _)))
  isplitl [HS2]
  · iexists _; isplitr; swap; · iexact HS2
    ipureintro
    exact (View.read_writes_full _ _ _ _ _).trans (congrArg k0_pay16 ((View.readAt_full _ _ _).trans (harg8.read_unread _)))
  iexists _; isplitr; swap; · iexact HS3
  ipureintro
  exact (View.read_writes_full _ _ _ _ _).trans (congrArg k0_pay17 ((View.readAt_full _ _ _).trans (harg9.read_unread _)))

end Cert.KernelIdeal.Moe

end
-- ==== Proof.MoeRunD.lean ====
module

public import proofs.«01_k».proof.Proof.MoeStep

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any other point: the output rows are added to. -/
theorem run_D (c : Dev nD) (i : grid0.Coords) (arg3 : Memref sig .tc .vmem S2048x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x256x2048 .f32) (harg9 : arg9.IsWhole) (arg10 : Memref sig .tc .vmem S2048x2048 .f32) (harg10 : arg10.IsWhole) (arg11 : Memref sig .tc .vmem S2048x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S256x2048 .bf16) (harg14 : arg14.IsWhole) (hc0 : ¬ k0_cond1 i = 1#1) (hc1 : ¬ castCond i) (hc2 : ¬ k0_cond3 i = 1#1) (hc3 : k0_cond4 i = 1#1)
    (x0 : Vec F S2048x2048 .f32) (x1 : Vec F S1x2048 .f32) (x2 : Vec F S2048x128 .f32) (x3 : Vec F S1x128 .f32) (x4 : Vec F S1x2048x256 .f32) (x5 : Vec F S1x2048x256 .f32) (x6 : Vec F S1x256x2048 .f32)
    (y : Vec F S2048x2048 .f32) (cb : Vec F S2048x128 .f32) (gb : Vec F S2048x256 .bf16) (ub : Vec F S2048x256 .bf16) (db : Vec F S256x2048 .bf16) (E : Set ℕ) (K : PUnit → sProp 𝕄) :
        iprop(Held c arg3 arg4 arg5 arg6 arg7 arg8 arg9 arg10 arg11 arg12 arg13 arg14 x0 x1 x2 x3 x4 x5 x6 y cb gb ub db
            ∗ (Held c arg3 arg4 arg5 arg6 arg7 arg8 arg9 arg10 arg11 arg12 arg13 arg14 x0 x1 x2 x3 x4 x5 x6 (outAdd i hc3 x0 x1 gb ub db (combGet i cb) y) cb gb ub db -∗ K ⟨⟩))
          ⊢ wp frame (wpE (defs₀ (F := F)) Variants.none c none) E (cc0__moe_body i arg3 harg3 arg4 harg4 arg5 harg5 arg6 harg6 arg7 harg7 arg8 harg8 arg9 harg9 arg10 harg10 arg11 harg11 arg12 harg12 arg13 harg13 arg14 harg14) K := by
  simp only [cc0__moe_body_eq_skeleton]; unfold cc0__moe_body_skel
  simp only [k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hs0, HS0⟩, ⟨%fs1, %hs1, HS1⟩, ⟨%fs2, %hs2, HS2⟩, ⟨%fs3, %hs3, HS3⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg10.eq_unread hf7; obtain rfl := harg11.eq_unread hs0; obtain rfl := harg12.eq_unread hs1; obtain rfl := harg13.eq_unread hs2; obtain rfl := harg14.eq_unread hs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact outAdd_congr i hc3 arg10 harg10 y _ (hidden_congr (load_rows harg3 x0 _ _) ((View.readAt_full _ _ _).trans (harg4.read_unread _)) ((View.readAt_full _ _ _).trans (harg12.read_unread _)) ((View.readAt_full _ _ _).trans (harg13.read_unread _))) ((View.readAt_full _ _ _).trans (harg14.read_unread _)) (load_rows harg11 cb _ _) (load_rows harg10 y _ _)
  isplitl [HS0]
  · iexists _; isplitr; swap; · iexact HS0
    ipureintro
    exact harg11.read_unread _
  isplitl [HS1]
  · iexists _; isplitr; swap; · iexact HS1
    ipureintro
    exact harg12.read_unread _
  isplitl [HS2]
  · iexists _; isplitr; swap; · iexact HS2
    ipureintro
    exact harg13.read_unread _
  iexists _; isplitr; swap; · iexact HS3
  ipureintro
  exact harg14.read_unread _

end Cert.KernelIdeal.Moe

end
-- ==== Proof.MoeBody.lean ====
module

public import proofs.«01_k».proof.Proof.MoeInv
public import proofs.«01_k».proof.Proof.MoeRunA
public import proofs.«01_k».proof.Proof.MoeRunB
public import proofs.«01_k».proof.Proof.MoeRunC
public import proofs.«01_k».proof.Proof.MoeRunD
public import proofs.«01_k».proof.Proof.Gen.KernelIdeal.Points
public import Idealize.ShloMosaic.Lib.Pipeline.DatRel
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (B : Blocks F)

/-- The body's buffers after `n` points, the inputs at the blocks of point `t`. -/
def After (c : Dev nD) (t : Fin cfg0.N) (n : ℕ) (arg3 : Memref sig .tc .vmem S2048x2048 .f32) (arg4 : Memref sig .tc .vmem S1x2048 .f32) (arg5 : Memref sig .tc .vmem S2048x128 .f32) (arg6 : Memref sig .tc .vmem S1x128 .f32) (arg7 : Memref sig .tc .vmem S1x2048x256 .f32) (arg8 : Memref sig .tc .vmem S1x2048x256 .f32) (arg9 : Memref sig .tc .vmem S1x256x2048 .f32) (arg10 : Memref sig .tc .vmem S2048x2048 .f32) (arg11 : Memref sig .tc .vmem S2048x128 .f32) (arg12 : Memref sig .tc .vmem S2048x256 .bf16) (arg13 : Memref sig .tc .vmem S2048x256 .bf16) (arg14 : Memref sig .tc .vmem S256x2048 .bf16) : sProp 𝕄 :=
  iprop(∃ y cb gb ub db, ⌜B.OutOK n y ∧ B.CombOK n cb ∧ B.CastOK n gb ub db⌝
    ∗ Held c arg3 arg4 arg5 arg6 arg7 arg8 arg9 arg10 arg11 arg12 arg13 arg14 B.x0 B.x1 B.x2 B.x3 (B.g (t.val / 8)) (B.u (t.val / 8)) (B.w (t.val / 8)) y cb gb ub db)

theorem after_intro (c : Dev nD) (t : Fin cfg0.N) (n : ℕ) (arg3 : Memref sig .tc .vmem S2048x2048 .f32) (arg4 : Memref sig .tc .vmem S1x2048 .f32) (arg5 : Memref sig .tc .vmem S2048x128 .f32) (arg6 : Memref sig .tc .vmem S1x128 .f32) (arg7 : Memref sig .tc .vmem S1x2048x256 .f32) (arg8 : Memref sig .tc .vmem S1x2048x256 .f32) (arg9 : Memref sig .tc .vmem S1x256x2048 .f32) (arg10 : Memref sig .tc .vmem S2048x2048 .f32) (arg11 : Memref sig .tc .vmem S2048x128 .f32) (arg12 : Memref sig .tc .vmem S2048x256 .bf16) (arg13 : Memref sig .tc .vmem S2048x256 .bf16) (arg14 : Memref sig .tc .vmem S256x2048 .bf16) {y : Vec F S2048x2048 .f32} {cb : Vec F S2048x128 .f32} {gb ub : Vec F S2048x256 .bf16} {db : Vec F S256x2048 .bf16}
    (h : B.OutOK n y ∧ B.CombOK n cb ∧ B.CastOK n gb ub db) (K : sProp 𝕄) :
    iprop(After B c t n arg3 arg4 arg5 arg6 arg7 arg8 arg9 arg10 arg11 arg12 arg13 arg14 -∗ K) ⊢ iprop(Held c arg3 arg4 arg5 arg6 arg7 arg8 arg9 arg10 arg11 arg12 arg13 arg14 B.x0 B.x1 B.x2 B.x3 (B.g (t.val / 8)) (B.u (t.val / 8)) (B.w (t.val / 8)) y cb gb ub db -∗ K) := by
  unfold After
  iintro Hk H
  iapply Hk
  iexists y, cb, gb, ub, db
  isplitr
  · ipureintro; exact h
  · iexact H

/-- The body at a point carries the buffers from `t` points to `t + 1`. -/
theorem body_step (c : Dev nD) (t : Fin cfg0.N) (arg3 : Memref sig .tc .vmem S2048x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x256x2048 .f32) (harg9 : arg9.IsWhole) (arg10 : Memref sig .tc .vmem S2048x2048 .f32) (harg10 : arg10.IsWhole) (arg11 : Memref sig .tc .vmem S2048x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S256x2048 .bf16) (harg14 : arg14.IsWhole) (E : Set ℕ) (K : PUnit → sProp 𝕄) :
    iprop(After B c t t.val arg3 arg4 arg5 arg6 arg7 arg8 arg9 arg10 arg11 arg12 arg13 arg14 ∗ (After B c t (t.val + 1) arg3 arg4 arg5 arg6 arg7 arg8 arg9 arg10 arg11 arg12 arg13 arg14 -∗ K ⟨⟩))
      ⊢ wp frame (wpE (defs₀ (F := F)) Variants.none c none) E (cc0__moe_body (grid0.coords t) arg3 harg3 arg4 harg4 arg5 harg5 arg6 harg6 arg7 harg7 arg8 harg8 arg9 harg9 arg10 harg10 arg11 harg11 arg12 harg12 arg13 harg13 arg14 harg14) K := by
  rw [show (After B c t t.val arg3 arg4 arg5 arg6 arg7 arg8 arg9 arg10 arg11 arg12 arg13 arg14 : sProp 𝕄) = iprop(∃ y cb gb ub db, ⌜B.OutOK t.val y ∧ B.CombOK t.val cb ∧ B.CastOK t.val gb ub db⌝
    ∗ Held c arg3 arg4 arg5 arg6 arg7 arg8 arg9 arg10 arg11 arg12 arg13 arg14 B.x0 B.x1 B.x2 B.x3 (B.g (t.val / 8)) (B.u (t.val / 8)) (B.w (t.val / 8)) y cb gb ub db) from rfl]
  iintro ⟨⟨%y, %cb, %gb, %ub, %db, %h, H⟩, Hk⟩
  obtain ⟨hy, hc, hw⟩ := h
  by_cases h0 : t.val < 8
  · by_cases h1 : t.val % 8 = 0
    · iapply (run_A c (grid0.coords t) _ _ _ _ _ _ _ _ _ _ _ _ _ _ _ _ _ _ _ _ _ _ _ _ ((router_iff t).mpr h0) ((cast_iff t).mpr h1) ((init_iff t).mpr h0) (fun h => absurd ((acc_iff t).mp h) (by omega)) B.x0 B.x1 B.x2 B.x3 (B.g (t.val / 8)) (B.u (t.val / 8)) (B.w (t.val / 8)) y cb gb ub db E K)
      isplitl [H]; · iexact H
      iapply (after_intro B c t (t.val + 1) arg3 arg4 arg5 arg6 arg7 arg8 arg9 arg10 arg11 arg12 arg13 arg14 ⟨B.outOK_first t h0 hy (B.castOK_new t.val), B.combOK_put t h0 hc, B.castOK_new t.val⟩ (K ⟨⟩))
      iexact Hk
    · have hw' := B.castOK_keep t.val h1 hw
      iapply (run_B c (grid0.coords t) _ _ _ _ _ _ _ _ _ _ _ _ _ _ _ _ _ _ _ _ _ _ _ _ ((router_iff t).mpr h0) (fun h => h1 ((cast_iff t).mp h)) ((init_iff t).mpr h0) (fun h => absurd ((acc_iff t).mp h) (by omega)) B.x0 B.x1 B.x2 B.x3 (B.g (t.val / 8)) (B.u (t.val / 8)) (B.w (t.val / 8)) y cb gb ub db E K)
      isplitl [H]; · iexact H
      iapply (after_intro B c t (t.val + 1) arg3 arg4 arg5 arg6 arg7 arg8 arg9 arg10 arg11 arg12 arg13 arg14 ⟨B.outOK_first t h0 hy hw', B.combOK_put t h0 hc, hw'⟩ (K ⟨⟩))
      iexact Hk
  · have h8 : 8 ≤ t.val := Nat.le_of_not_lt h0
    by_cases h1 : t.val % 8 = 0
    · iapply (run_C c (grid0.coords t) _ _ _ _ _ _ _ _ _ _ _ _ _ _ _ _ _ _ _ _ _ _ _ _ (fun h => h0 ((router_iff t).mp h)) ((cast_iff t).mpr h1) (fun h => h0 ((init_iff t).mp h)) ((acc_iff t).mpr h8) B.x0 B.x1 B.x2 B.x3 (B.g (t.val / 8)) (B.u (t.val / 8)) (B.w (t.val / 8)) y cb gb ub db E K)
      isplitl [H]; · iexact H
      iapply (after_intro B c t (t.val + 1) arg3 arg4 arg5 arg6 arg7 arg8 arg9 arg10 arg11 arg12 arg13 arg14 ⟨B.outOK_add t h8 _ hy (B.castOK_new t.val) hc, B.combOK_keep t.val h8 hc, B.castOK_new t.val⟩ (K ⟨⟩))
      iexact Hk
    · have hw' := B.castOK_keep t.val h1 hw
      iapply (run_D c (grid0.coords t) _ _ _ _ _ _ _ _ _ _ _ _ _ _ _ _ _ _ _ _ _ _ _ _ (fun h => h0 ((router_iff t).mp h)) (fun h => h1 ((cast_iff t).mp h)) (fun h => h0 ((init_iff t).mp h)) ((acc_iff t).mpr h8) B.x0 B.x1 B.x2 B.x3 (B.g (t.val / 8)) (B.u (t.val / 8)) (B.w (t.val / 8)) y cb gb ub db E K)
      isplitl [H]; · iexact H
      iapply (after_intro B c t (t.val + 1) arg3 arg4 arg5 arg6 arg7 arg8 arg9 arg10 arg11 arg12 arg13 arg14 ⟨B.outOK_add t h8 _ hy hw' hc, B.combOK_keep t.val h8 hc, hw'⟩ (K ⟨⟩))
      iexact Hk

end Cert.KernelIdeal.Moe

end
-- ==== Proof.MoeLaunch.lean ====
module

public import proofs.«01_k».proof.Proof.MoeBody
public import Idealize.ShloMosaic.Lib.Pipeline.ArrRel
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- The grid point of a number. -/
def pt (n : ℕ) : Fin cfg0.N := ⟨n % 256, Nat.lt_of_lt_of_eq (Nat.mod_lt _ (by decide)) N_0.symm⟩

/-- The operands of the region as it finds them. -/
def blocks (c : Dev nD) : Blocks F where
  x0 := V m c main_v0
  x1 := V m c main_v10
  x2 := V m c main_v4
  x3 := V m c main_v9
  g q := iblk m c 4 (pt (8 * q))
  u q := iblk m c 5 (pt (8 * q))
  w q := iblk m c 6 (pt (8 * q))

/-- The block each window is on. -/
theorem idxs : ∀ t : Fin cfg0.N, win0_0.index t = ![0, 0] ∧ win0_1.index t = ![0, 0] ∧ win0_2.index t = ![0, 0] ∧ win0_3.index t = ![0, 0]
    ∧ win0_4.index t = ![t.val / 32, 0, t.val / 8 % 4] ∧ win0_5.index t = ![t.val / 32, 0, t.val / 8 % 4] ∧ win0_6.index t = ![t.val / 32, t.val / 8 % 4, 0] ∧ win0_7.index t = ![0, 0] :=
  (by decide +kernel : ∀ t : Fin grid0.N, _)

theorem pt_div (t : Fin cfg0.N) : (pt (8 * (t.val / 8))).val / 8 = t.val / 8 := by
  have := (coords_vals t).2.2.2
  show 8 * (t.val / 8) % 256 / 8 = t.val / 8
  omega

theorem whole_0 (c : Dev nD) (t : Fin cfg0.N) : iblk m c 0 t = V m c main_v0 := by
  unfold iblk
  show ((cfg0.win 0).blk t).view.read (Elt F) (V m c main_v0) = V m c main_v0
  generalize V m c main_v0 = G
  funext j
  blk_ext! [idxs t]

theorem whole_1 (c : Dev nD) (t : Fin cfg0.N) : iblk m c 1 t = V m c main_v10 := by
  unfold iblk
  show ((cfg0.win 1).blk t).view.read (Elt F) (V m c main_v10) = V m c main_v10
  generalize V m c main_v10 = G
  funext j
  blk_ext! [idxs t]

theorem whole_2 (c : Dev nD) (t : Fin cfg0.N) : iblk m c 2 t = V m c main_v4 := by
  unfold iblk
  show ((cfg0.win 2).blk t).view.read (Elt F) (V m c main_v4) = V m c main_v4
  generalize V m c main_v4 = G
  funext j
  blk_ext! [idxs t]

theorem whole_3 (c : Dev nD) (t : Fin cfg0.N) : iblk m c 3 t = V m c main_v9 := by
  unfold iblk
  show ((cfg0.win 3).blk t).view.read (Elt F) (V m c main_v9) = V m c main_v9
  generalize V m c main_v9 = G
  funext j
  blk_ext! [idxs t]

theorem blk_0 (c : Dev nD) (t : Fin cfg0.N) : iblk m c 0 t = (blocks m c).x0 := by
  rw [whole_0 m c t, blocks]

theorem blk_1 (c : Dev nD) (t : Fin cfg0.N) : iblk m c 1 t = (blocks m c).x1 := by
  rw [whole_1 m c t, blocks]

theorem blk_2 (c : Dev nD) (t : Fin cfg0.N) : iblk m c 2 t = (blocks m c).x2 := by
  rw [whole_2 m c t, blocks]

theorem blk_3 (c : Dev nD) (t : Fin cfg0.N) : iblk m c 3 t = (blocks m c).x3 := by
  rw [whole_3 m c t, blocks]

theorem blk_4 (c : Dev nD) (t : Fin cfg0.N) : iblk m c 4 t = (blocks m c).g (t.val / 8) := by
  show iblk m c 4 t = iblk m c 4 (pt (8 * (t.val / 8)))
  have h := pt_div t
  generalize pt (8 * (t.val / 8)) = s at h
  have h1 : t.val / 32 = s.val / 32 := by omega
  funext j
  blk_ext! [iblk, idxs t, idxs s]

theorem blk_5 (c : Dev nD) (t : Fin cfg0.N) : iblk m c 5 t = (blocks m c).u (t.val / 8) := by
  show iblk m c 5 t = iblk m c 5 (pt (8 * (t.val / 8)))
  have h := pt_div t
  generalize pt (8 * (t.val / 8)) = s at h
  have h1 : t.val / 32 = s.val / 32 := by omega
  funext j
  blk_ext! [iblk, idxs t, idxs s]

theorem blk_6 (c : Dev nD) (t : Fin cfg0.N) : iblk m c 6 t = (blocks m c).w (t.val / 8) := by
  show iblk m c 6 t = iblk m c 6 (pt (8 * (t.val / 8)))
  have h := pt_div t
  generalize pt (8 * (t.val / 8)) = s at h
  have h1 : t.val / 32 = s.val / 32 := by omega
  funext j
  blk_ext! [iblk, idxs t, idxs s]

/-! ## The proof data -/

/-- Only the output window's contents are not named exactly. -/
def outMask : Fin 8 → Bool := fun w => w.val == 7

/-- What the scratch buffers hold after `n` points. -/
def Scratch (c : Dev nD) (n : ℕ) : sProp 𝕄 :=
  iprop((∃ cb gb ub db, ⌜(blocks m c).CombOK n cb ∧ (blocks m c).CastOK n gb ub db⌝
    ∗ owns (c : Thread nD τ) scM0_0 fullShare cb ∗ owns (c : Thread nD τ) scM0_1 fullShare gb ∗ owns (c : Thread nD τ) scM0_2 fullShare ub ∗ owns (c : Thread nD τ) scM0_3 fullShare db)
    ∗ (∃ r, prngReg c r))

/-- The proof data: each input window at its block, the scratch buffers at what the points so far have left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := Scratch m c t.val
  q _ := fullShare
  owed _ := 0

/-- What the body leaves in the output window at a point. -/
def Rl (c : Dev nD) : (w : Fin cfg0.W) → Fin cfg0.N → ((cfg0.win w).block.Idx → Elt F (cfg0.win w).elt) → Prop
  | ⟨7, _⟩, t, X => (blocks m c).OutOK (t.val + 1) X
  | _, _, _ => True

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The output window as the body finds it: before the first point anything, then what the point before left. -/
theorem finds_out (c : Dev nD) (t : Fin cfg0.N) (Y : Vec F S2048x2048 .f32) (h : ((dats m 0 c).toRRel outMask (Rl m c)).Finds 7 t Y) :
    (blocks m c).OutOK t.val Y := by
  have ht : t.val < 256 := (coords_vals t).2.2.2
  by_cases h0 : t.val = 0
  · rw [h0]; intro b hb; omega
  · have hf : (cfg0.win 7).fetch t = false := rfl
    rcases (((dats m 0 c).toRRel outMask (Rl m c)).finds_of_pos hf h0 Y).mp h with hfl | hl
    · have := (flush0_7 _).mp hfl
      have e : (t.val - 1) % 256 = 255 := this
      omega
    · have := Pipeline.Dat.toRRel_leaves (dats m 0 c) (show outMask 7 = true from rfl) hl
      have e : (blocks m c).OutOK (t.val - 1 + 1) Y := this
      rwa [show t.val - 1 + 1 = t.val by omega] at e

/-! ## The body obligation -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel outMask (Rl m c)).Finds 7 t Y⌝ ∗ owns (c : Thread nD τ) (ms0_7 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6,
    blk_0, blk_1, blk_2, blk_3, blk_4, blk_5, blk_6]
  rw [show (dats m 0 c).Φ t.castSucc = Scratch m c t.val from rfl, show (dats m 0 c).Φ t.succ = Scratch m c (t.val + 1) from rfl,
    show (dats m 0 c).owesAt () t.succ = (dats m 0 c).owesAt () t.castSucc from rfl]
  unfold Scratch
  iintro ⟨⟨⟨%cb, %gb, %ub, %db, %hs, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  have hy := finds_out m c t Y hY
  iapply (body_step (blocks m c) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) Set.univ _)
  isplitl [H0 H1 H2 H3 H4 H5 H6 H7 HS0 HS1 HS2 HS3]
  · unfold After
    iexists Y, cb, gb, ub, db
    isplitr
    · ipureintro; exact ⟨hy, hs.1, hs.2⟩
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  unfold After Held
  iintro ⟨%Y', %cb', %gb', %ub', %db', %h', H0, H1, H2, H3, H4, H5, H6, H7, HS0, HS1, HS2, HS3⟩
  isplitl [HS0 HS1 HS2 HS3 Hg]
  · isplitl [HS0 HS1 HS2 HS3]
    · iexists cb', gb', ub', db'
      isplitr
      · ipureintro; exact ⟨h'.2.1, h'.2.2⟩
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Y'
  isplitr
  · ipureintro; exact h'.1
  · iexact H7

/-- The body table's row at a point is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ outMask (Rl m c) := fun t => by
  rw [bigSep_W0, bigSep_W0, row_eq]
  exact triple_restated (sound_body m c t) rfl .rfl fun _ => .rfl

/-! ## The run -/

theorem scratch_in (c : Dev nD) : (Pipeline.ΦA spec0 c : sProp 𝕄) ⊢ Scratch m c 0 := by
  rw [PhiA_eq]; unfold Scratch
  iintro ⟨⟨⟨%cb, HS0⟩, ⟨%gb, HS1⟩, ⟨%ub, HS2⟩, ⟨%db, HS3⟩⟩, Hg⟩
  isplitl [HS0 HS1 HS2 HS3]
  · iexists cb, gb, ub, db
    isplitr
    · ipureintro; exact ⟨fun b hb => absurd hb (Nat.not_lt_zero _), fun h => absurd h (Nat.lt_irrefl _)⟩
    isplitl [HS0]; · iexact HS0
    isplitl [HS1]; · iexact HS1
    isplitl [HS2]; · iexact HS2
    iexact HS3
  iexact Hg

theorem scratch_out (c : Dev nD) (n : ℕ) : Scratch m c n ⊢ (Pipeline.ΦA spec0 c : sProp 𝕄) := by
  rw [PhiA_eq]; unfold Scratch
  iintro ⟨⟨%cb, %gb, %ub, %db, %hs, HS0, HS1, HS2, HS3⟩, Hg⟩
  isplitl [HS0 HS1 HS2 HS3]
  · isplitl [HS0]; · iexists cb; iexact HS0
    isplitl [HS1]; · iexists gb; iexact HS1
    isplitl [HS2]; · iexists ub; iexact HS2
    iexists db; iexact HS3
  iexact Hg

set_option backward.isDefEq.respectTransparency.types false in
/-- The run ends with the arrays as the relational data say and every counter at zero. -/
theorem run_main : θ_run defs (onTc (τ := τ) (main (F := F))) (s₀ m ρ)
    (fun r => (Pipeline.RDat.FramePost (cfgs 0) (fun c => (dats m 0 c).toRRel outMask (Rl m c)) (V m)) r ∧ r.2.sem = fun _ => 0) :=
  Pipeline.RDat.θ_run_frame_track (Q' := _) cfgs (0 : Fin 1) launch0 defs₀ Variants.none (fun c => (dats m 0 c).toRRel outMask (Rl m c)) m ρ main
    (hbody := fun c => (body_obligation m c).toRRel) (hshare := fun c => (dats m 0 c).share_full fun _ => rfl)
    (howed := fun _ _ => rfl) (V := V m) (hmain := hmain m Variants.none) (hA := A_eq m) (hin := scratch_in m) (hout := fun c => scratch_out m c _)

/-! ## The arguments and the result afterwards -/

/-- The output window's one flushing point is the last, and it writes the whole array. -/
theorem whole_last : (cfg0.win 7).WholeAt (pt 255) := by
  have hi := (idxs (pt 255)).2.2.2.2.2.2.2
  refine ⟨(flush0_7 _).mpr (by show 255 % 256 % 256 = 255; rfl), fun t ht => ?_, fun a => ⟨?_, ?_⟩⟩
  · have := (coords_vals t).2.2.2
    have e : t.val % 256 = 255 := (flush0_7 t).mp ht
    exact Fin.ext (by show t.val = 255 % 256; omega)
  · show win0_7.index (pt 255) a = 0
    rw [hi]
    fin_cases a <;> rfl
  · fin_cases a <;> rfl

set_option backward.isDefEq.respectTransparency.types false in
theorem args_of (rdat : (c : Dev nD) → Pipeline.RDat τ (Elt F) Unit ℕ (UR sig nD τ) ℕ (cfgs 0) c)
    (hA : ∀ c w, (rdat c).A w = V m c (Pipeline.arrRef spec0 w)) (r : PUnit × MemSt nD τ sig (Elt F))
    (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 4 rfl).trans ((hA c 4).trans (V_main_arg4 m c)),
    (Pipeline.RDat.FramePost.arr_in h c 5 rfl).trans ((hA c 5).trans (V_main_arg5 m c)),
    (Pipeline.RDat.FramePost.arr_in h c 6 rfl).trans ((hA c 6).trans (V_main_arg6 m c))⟩

/-- The result: rows `256 b …` hold the sum over all 32 blocks of the weights. -/
theorem result_of (r : PUnit × MemSt nD τ sig (Elt F))
    (h : Pipeline.RDat.FramePost (cfgs 0) (fun c => (dats m 0 c).toRRel outMask (Rl m c)) (V m) r) (c : Dev nD) :
    ∀ b : Fin 8, rows b (r.2.mem ((c.tc : Thread nD τ).loc main_v11)) = (blocks m c).acc b 31 := by
  obtain ⟨X, hX, hj⟩ := ((h c).1 7).emb_eq_of_wholeAt whole_last
  have h1 : (blocks m c).OutOK (255 + 1) X := Pipeline.Dat.toRRel_leaves (dats m 0 c) (show outMask 7 = true from rfl) hX
  have h2 : r.2.mem ((c.tc : Thread nD τ).loc main_v11) = X := funext fun j => hj j
  intro b
  rw [h2, h1 b (by omega)]
  congr 1
  omega

/-- The kernel's run: the arguments unchanged, every counter at zero, the result by the sums. -/
theorem ran : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ ∀ b : Fin 8, rows b (r.2.mem ((c.tc : Thread nD τ).loc main_v11)) = (blocks m c).acc b 31)
      ∧ r.2.sem = fun _ => 0) :=
  (θ_run defs _ _).mono (fun r h => ⟨fun c => ⟨args_of m _ (A_eq m) r h.1 c, result_of m r h.1 c⟩, h.2⟩) (run_main m ρ)

end Cert.KernelIdeal.Moe

end
-- ==== Proof.Top2.lean ====
module

public import Idealize.ShloMosaic.Lib.SortFacts
public import Idealize.ShloMosaic.Lib.SortPrefix
public import Idealize.ShloMosaic.PureOps.Ideal
public import Idealize.ShloMosaic.Lib.Pointwise

@[expose] public section

noncomputable section

namespace Cert.Moe

open Idealize.ShloMosaic

/-! ## The two greatest of eight, ties to the lower index -/

/-- `a` is the first greatest entry, `b` the first greatest of the others. -/
structure Top2 (ch : Fin 8 → EReal) (a b : Fin 8) : Prop where
  max1 : ∀ j, ch j ≤ ch a
  first1 : ∀ j, j < a → ch j < ch a
  ne : b ≠ a
  max2 : ∀ j, j ≠ a → ch j ≤ ch b
  first2 : ∀ j, j ≠ a → j < b → ch j < ch b

/-- A nonempty set has a first greatest entry. -/
theorem exists_first_max (ch : Fin 8 → EReal) (s : Finset (Fin 8)) (hs : s.Nonempty) :
    ∃ a ∈ s, (∀ j ∈ s, ch j ≤ ch a) ∧ ∀ j ∈ s, j < a → ch j < ch a := by
  obtain ⟨m, hm, hmax⟩ := Finset.exists_max_image s ch hs
  have hne : (s.filter fun j => ch j = ch m).Nonempty := ⟨m, Finset.mem_filter.mpr ⟨hm, rfl⟩⟩
  refine ⟨(s.filter fun j => ch j = ch m).min' hne, ?_, ?_, ?_⟩
  · exact (Finset.mem_filter.mp (Finset.min'_mem _ hne)).1
  · intro j hj
    rw [(Finset.mem_filter.mp (Finset.min'_mem _ hne)).2]
    exact hmax j hj
  · intro j hj hlt
    rw [(Finset.mem_filter.mp (Finset.min'_mem _ hne)).2]
    refine lt_of_le_of_ne (hmax j hj) fun e => ?_
    exact absurd hlt (not_lt.mpr (Finset.min'_le _ _ (Finset.mem_filter.mpr ⟨hj, e⟩)))

theorem Top2.exists (ch : Fin 8 → EReal) : ∃ a b, Top2 ch a b := by
  obtain ⟨a, -, ha1, ha2⟩ := exists_first_max ch Finset.univ ⟨0, Finset.mem_univ _⟩
  obtain ⟨b, hb, hb1, hb2⟩ := exists_first_max ch (Finset.univ.erase a) (by
    rw [← Finset.card_pos, Finset.card_erase_of_mem (Finset.mem_univ _)]; decide)
  exact ⟨a, b, fun j => ha1 j (Finset.mem_univ _), fun j => ha2 j (Finset.mem_univ _), Finset.ne_of_mem_erase hb,
    fun j hj => hb1 j (Finset.mem_erase.mpr ⟨hj, Finset.mem_univ _⟩), fun j hj => hb2 j (Finset.mem_erase.mpr ⟨hj, Finset.mem_univ _⟩)⟩

/-! ## The stable sort -/

/-- Greater first. -/
def gtB (ch : Fin 8 → EReal) (k k' : Fin 8) : Bool := decide (ch k' < ch k)

/-- Greater first, ties by position. -/
def keyB (ch : Fin 8 → EReal) (k k' : Fin 8) : Bool :=
  (fun u v : EReal => decide (v < u)) (ch k) (ch k') || (decide (ch k = ch k') && decide (k < k'))

theorem keyB_total (ch : Fin 8 → EReal) : StrictTotalBefore (keyB ch) :=
  StrictTotalBefore.of_key_then_position (fun u v : EReal => decide (v < u)) ch (fun a => by simp)
    (fun a b c h h' => by simp only [decide_eq_true_eq] at h h' ⊢; exact lt_trans h' h)
    (fun a b => by
      simp only [decide_eq_true_eq]
      rcases lt_trichotomy a b with h | h | h
      · exact Or.inr (Or.inr h)
      · exact Or.inr (Or.inl h)
      · exact Or.inl h)

/-- On an ascending list the sort by key alone is the sort by key and position. -/
theorem stableSort_gt (ch : Fin 8 → EReal) (l : List (Fin 8)) (hl : l.Pairwise (· < ·)) :
    stableSort (gtB ch) l = stableSort (keyB ch) l := by
  induction l with
  | nil => rfl
  | cons a l ih =>
    obtain ⟨ha, hl'⟩ := List.pairwise_cons.mp hl
    show insertBefore (gtB ch) a (stableSort (gtB ch) l) = insertBefore (keyB ch) a (stableSort (keyB ch) l)
    rw [ih hl']
    refine insertBefore_congr _ _ a _ fun b hb => ?_
    have hab : a < b := ha b ((perm_stableSort _ l).mem_iff.mp hb)
    simp only [gtB, keyB, decide_eq_false (not_lt.mpr hab.le), Bool.and_false, Bool.or_false]

theorem sortedFrom_gt (ch : Fin 8 → EReal) (k : Fin 8) : sortedFrom (gtB ch) k = sortedFrom (keyB ch) k := by
  have h : sortPositions 8 (gtB ch) = sortPositions 8 (keyB ch) := stableSort_gt ch _ (List.pairwise_lt_finRange 8)
  unfold sortedFrom
  exact List.get_of_eq h _

/-- The sort's first two positions. -/
theorem Top2.sorted {ch : Fin 8 → EReal} {a b : Fin 8} (h : Top2 ch a b) (k : Fin 2) :
    sortedFrom (gtB ch) (k.castLE (by decide)) = (![a, b] : Fin 2 → Fin 8) k := by
  rw [sortedFrom_gt]
  refine (keyB_total ch).sortedFrom_eq_of_prefix (by decide) ![a, b] ?_ ?_ ?_ k
  · intro i j e
    fin_cases i <;> fin_cases j
    · rfl
    · exact absurd e.symm h.ne
    · exact absurd e h.ne
    · rfl
  · intro i j hij
    fin_cases i <;> fin_cases j
    · exact absurd hij (by decide)
    · show keyB ch b a = false
      by_contra hc
      simp only [keyB, Bool.not_eq_false, Bool.or_eq_true, Bool.and_eq_true, decide_eq_true_eq] at hc
      rcases hc with hc | ⟨e, hlt⟩
      · exact absurd hc (not_lt.mpr (h.max1 b))
      · exact absurd e (h.first1 b hlt).ne
    · exact absurd hij (by decide)
    · exact absurd hij (by decide)
  · intro i p hp
    have hpa : p ≠ a := fun e => hp 0 e.symm
    have hpb : p ≠ b := fun e => hp 1 e.symm
    fin_cases i
    · show keyB ch p a = false
      by_contra hc
      simp only [keyB, Bool.not_eq_false, Bool.or_eq_true, Bool.and_eq_true, decide_eq_true_eq] at hc
      rcases hc with hc | ⟨e, hlt⟩
      · exact absurd hc (not_lt.mpr (h.max1 p))
      · exact absurd e (h.first1 p hlt).ne
    · show keyB ch p b = false
      by_contra hc
      simp only [keyB, Bool.not_eq_false, Bool.or_eq_true, Bool.and_eq_true, decide_eq_true_eq] at hc
      rcases hc with hc | ⟨e, hlt⟩
      · exact absurd hc (not_lt.mpr (h.max2 p hpa))
      · exact absurd e (h.first2 p hpa hlt).ne

/-! ## The masks of 128 columns -/

/-- The smallest index held by a column that attains the greatest value, or 128. -/
def argWord (f : Fin 128 → EReal) (m : EReal) : BitVec 32 :=
  Finset.univ.fold IntOp.minsi 2147483647#32 fun k : Fin 128 => if f k = m then BitVec.ofNat 32 k.val else 128#32

theorem toInt_ofNat_lt {n : ℕ} (h : n < 2 ^ 31) : (BitVec.ofNat 32 n).toInt = n := by
  rw [BitVec.toInt_ofNat', Int.bmod_eq_of_le] <;> omega

/-- A fold of signed minimums: the least of the words. -/
theorem fold_minsi (s : Finset (Fin 128)) (g : Fin 128 → BitVec 32) (i : BitVec 32) :
    (s.fold IntOp.minsi i g).toInt ≤ i.toInt ∧ (∀ k ∈ s, (s.fold IntOp.minsi i g).toInt ≤ (g k).toInt)
      ∧ (s.fold IntOp.minsi i g = i ∨ ∃ k ∈ s, s.fold IntOp.minsi i g = g k) := by
  classical
  induction s using Finset.induction_on with
  | empty => exact ⟨le_refl _, fun k hk => absurd hk (Finset.notMem_empty k), Or.inl rfl⟩
  | insert a s ha ih =>
    rw [Finset.fold_insert ha]
    obtain ⟨h1, h2, h3⟩ := ih
    generalize s.fold IntOp.minsi i g = v at h1 h2 h3
    have hm : IntOp.minsi (g a) v = if (g a).toInt < v.toInt then g a else v := by
      unfold IntOp.minsi; simp only [BitVec.slt, decide_eq_true_eq]
    rw [hm]
    split
    · next hlt =>
      refine ⟨by omega, fun k hk => ?_, Or.inr ⟨a, Finset.mem_insert_self _ _, rfl⟩⟩
      rcases Finset.mem_insert.mp hk with rfl | hk
      · exact le_refl _
      · exact le_trans hlt.le (h2 k hk)
    · next hlt =>
      refine ⟨h1, fun k hk => ?_, ?_⟩
      · rcases Finset.mem_insert.mp hk with rfl | hk
        · exact not_lt.mp hlt
        · exact h2 k hk
      · rcases h3 with h3 | ⟨k, hk, h3⟩
        · exact Or.inl h3
        · exact Or.inr ⟨k, Finset.mem_insert_of_mem hk, h3⟩

/-- At a column that attains the value, none before it attaining it, the word is that column's index. -/
theorem argWord_eq (f : Fin 128 → EReal) (m : EReal) (c : Fin 128) (hc : f c = m) (hfirst : ∀ k, k < c → f k ≠ m) :
    argWord f m = BitVec.ofNat 32 c.val := by
  obtain ⟨h1, h2, h3⟩ := fold_minsi Finset.univ (fun k : Fin 128 => if f k = m then BitVec.ofNat 32 k.val else 128#32) 2147483647#32
  change (argWord f m).toInt ≤ _ at h1
  change ∀ k ∈ Finset.univ, (argWord f m).toInt ≤ _ at h2
  change argWord f m = _ ∨ ∃ k ∈ Finset.univ, argWord f m = _ at h3
  have hle := h2 c (Finset.mem_univ _)
  rw [if_pos hc, toInt_ofNat_lt (by have := c.isLt; omega)] at hle
  have hcl := c.isLt
  rcases h3 with h3 | ⟨k, -, h3⟩
  · rw [h3, show (2147483647#32 : BitVec 32).toInt = 2147483647 by decide] at hle; omega
  · by_cases hk : f k = m
    · rw [if_pos hk] at h3
      rw [h3, toInt_ofNat_lt (by have := k.isLt; omega)] at hle
      have : ¬ k < c := fun hlt => hfirst k hlt hk
      have e : k = c := Fin.ext (by have h : ¬ k.val < c.val := this; omega)
      rw [h3, e]
    · rw [if_neg hk] at h3
      rw [h3, show (128#32 : BitVec 32).toInt = 128 by decide] at hle; omega

/-- Two column indices as words. -/
theorem word_eq_iff (e c : Fin 128) : BitVec.ofNat 32 e.val = BitVec.ofNat 32 c.val ↔ e = c := by
  constructor
  · intro h
    have := congrArg BitVec.toNat h
    rw [BitVec.toNat_ofNat, BitVec.toNat_ofNat, Nat.mod_eq_of_lt (by have := e.isLt; omega), Nat.mod_eq_of_lt (by have := c.isLt; omega)] at this
    exact Fin.ext this
  · rintro rfl; rfl

/-- The maximum of a family that one member attains. -/
theorem fold_max_eq (f : Fin 128 → EReal) (c : Fin 128) (h : ∀ k, f k ≤ f c) : Finset.univ.fold max (⊥ : EReal) f = f c := by
  refine le_antisymm ?_ ?_
  · exact Finset.fold_max_le _ |>.mpr ⟨bot_le, fun k _ => h k⟩
  · exact Finset.le_fold_max _ |>.mpr (Or.inr ⟨c, Finset.mem_univ _, le_refl _⟩)

/-- Eight entries in the first columns, all above every column past them. -/
structure Padded (f : Fin 128 → EReal) (ch : Fin 8 → EReal) : Prop where
  low : ∀ j : Fin 8, f (j.castLE (by decide)) = ch j
  high : ∀ k : Fin 128, 8 ≤ k.val → ∀ j, f k < ch j

theorem Padded.cases {f : Fin 128 → EReal} {ch : Fin 8 → EReal} (h : Padded f ch) (k : Fin 128) :
    (∃ j : Fin 8, k = j.castLE (by decide) ∧ f k = ch j) ∨ (8 ≤ k.val ∧ ∀ j, f k < ch j) := by
  by_cases hk : k.val < 8
  · exact Or.inl ⟨⟨k.val, hk⟩, rfl, h.low ⟨k.val, hk⟩⟩
  · exact Or.inr ⟨by omega, h.high k (by omega)⟩

/-- The first choice of the padded row. -/
theorem Padded.first {f : Fin 128 → EReal} {ch : Fin 8 → EReal} (h : Padded f ch) {a b : Fin 8} (t : Top2 ch a b) :
    argWord f (Finset.univ.fold max ⊥ f) = BitVec.ofNat 32 (a.castLE (by decide : 8 ≤ 128)).val := by
  rw [fold_max_eq f (a.castLE (by decide))]
  · refine argWord_eq _ _ _ rfl fun k hk => ?_
    rw [h.low a]
    rcases h.cases k with ⟨j, rfl, e⟩ | ⟨_, hk'⟩
    · rw [e]; exact (t.first1 j hk).ne
    · exact (hk' a).ne
  · intro k
    rw [h.low a]
    rcases h.cases k with ⟨j, rfl, e⟩ | ⟨_, hk'⟩
    · rw [e]; exact t.max1 j
    · exact (hk' a).le

/-- The second choice: the row with the first choice struck out. -/
theorem Padded.second {f : Fin 128 → EReal} {ch : Fin 8 → EReal} (h : Padded f ch) {a b : Fin 8} (t : Top2 ch a b)
    (g : Fin 128 → EReal) (hg : ∀ k, g k = if k = a.castLE (by decide) then ⊥ else f k) :
    argWord g (Finset.univ.fold max ⊥ g) = BitVec.ofNat 32 (b.castLE (by decide : 8 ≤ 128)).val := by
  have hb : g (b.castLE (by decide)) = ch b := by
    rw [hg, if_neg (fun e => t.ne (Fin.castLE_injective _ e)), h.low b]
  have hbot : (⊥ : EReal) < ch b := lt_of_le_of_lt bot_le (h.high ⟨8, by decide⟩ (le_refl _) b)
  rw [fold_max_eq g (b.castLE (by decide))]
  · refine argWord_eq _ _ _ rfl fun k hk => ?_
    rw [hb, hg k]
    split
    · exact hbot.ne
    · next hka =>
      rcases h.cases k with ⟨j, rfl, e⟩ | ⟨_, hk'⟩
      · rw [e]; exact (t.first2 j (fun e => hka (e ▸ rfl)) hk).ne
      · exact (hk' b).ne
  · intro k
    rw [hb, hg k]
    split
    · exact bot_le
    · next hka =>
      rcases h.cases k with ⟨j, rfl, e⟩ | ⟨_, hk'⟩
      · rw [e]; exact t.max2 j (fun e => hka (e ▸ rfl))
      · exact (hk' b).le

/-- A select on an equality of words. -/
theorem select_eq {α : Type} (x y : BitVec 32) (u v : α) : Scalar.select (IntOp.cmpi .eq x y) u v = if x = y then u else v := by
  unfold Scalar.select
  have e : IntOp.cmpi .eq x y = BitVec.ofBool (x == y) := rfl
  rw [e]
  by_cases h : x = y
  · rw [if_pos h, beq_iff_eq.mpr h]; rfl
  · rw [if_neg h, beq_eq_false_iff_ne.mpr h]; rfl

/-- A sum that selects one column. -/
theorem sum_pick (s : Fin 128 → EReal) (c : Fin 128) :
    (∑ k : Fin 128, Scalar.select (IntOp.cmpi .eq (BitVec.ofNat 32 k.val) (BitVec.ofNat 32 c.val)) (s k) 0) = s c := by
  rw [Finset.sum_eq_single c]
  · rw [select_eq, if_pos rfl]
  · intro k _ hk
    rw [select_eq, if_neg (fun e => hk ((word_eq_iff k c).mp e))]
  · intro hc; exact absurd (Finset.mem_univ c) hc

end Cert.Moe

end
-- ==== Proof.MoeVals.lean ====
module

public import proofs.«01_k».proof.Proof.Gen.KernelIdeal.Skeleton
public import proofs.«01_k».proof.Proof.Gen.KernelIdeal
public import Idealize.ShloMosaic.Lib.Pointwise
public import proofs.«01_k».proof.Proof.Top2

@[expose] public section

set_option maxRecDepth 16384

noncomputable section

namespace Cert.KernelIdeal.Moe

open Cert.KernelIdeal Cert.KernelIdeal.Gen
open Cert.Moe (Top2 Padded argWord select_eq sum_pick word_eq_iff)
open Idealize.ShloMosaic Idealize.ShloMosaic.TcCoe Idealize.SL.Sem

/-! ## The payloads, element by element, over the extended reals -/

theorem negInf : Ideal.ofBits .f32 4286578688#32 = ⊥ := by
  first | rfl | simp | decide

theorem pay1_at (h : Vec Ideal S256x256 .bf16) (w : Vec Ideal S256x2048 .bf16) (cb : Vec Ideal S256x128 .f32) (e : Fin 128) (r : Fin 256) (d : Fin 2048) :
    k0_pay1 (F := Ideal) (BitVec.ofNat 32 e.val) h w cb (ix2 r d) = (∑ k : Fin 256, h (ix2 r k) * w (ix2 k d)) * cb (ix2 r e) := by
  pointwise [k0_pay1]
  rw [sum_pick (fun k => cb (ix2 r k)) e]

theorem pay2_at (v : Vec Ideal S256x2048 .f32) (h : Vec Ideal S256x256 .bf16) (w : Vec Ideal S1x256x2048 .f32) (cb : Vec Ideal S256x128 .f32) (e : Fin 128) (r : Fin 256) (d : Fin 2048) :
    k0_pay2 (F := Ideal) (BitVec.ofNat 32 e.val) (k0_pay12 v) h (k0_pay17 w) cb (ix2 r d)
      = v (ix2 r d) + (∑ k : Fin 256, h (ix2 r k) * w (ix3 0 k d)) * cb (ix2 r e) := by
  unfold k0_pay2
  show k0_pay12 v (ix2 r d) + k0_pay1 (BitVec.ofNat 32 e.val) h (k0_pay17 w) cb (ix2 r d) = _
  rw [pay1_at]
  pointwise [k0_pay12, k0_pay17]

theorem pay3_at (v : Vec Ideal S256x2048 .f32) (h : Vec Ideal S256x256 .bf16) (w : Vec Ideal S1x256x2048 .f32) (cb : Vec Ideal S256x128 .f32) (e : Fin 128) (r : Fin 256) (d : Fin 2048) :
    k0_pay3 (F := Ideal) (BitVec.ofNat 32 e.val) h (k0_pay17 w) cb v (ix2 r d)
      = v (ix2 r d) + (∑ k : Fin 256, h (ix2 r k) * w (ix3 0 k d)) * cb (ix2 r e) := by
  unfold k0_pay3
  show shapeCast S256x2048 v shapeCasts_S256x2048_S256x2048 (ix2 r d) + k0_pay1 (BitVec.ofNat 32 e.val) h (k0_pay17 w) cb (ix2 r d) = _
  rw [pay1_at]
  pointwise [k0_pay17]

theorem pay4_at (x : Vec Ideal S256x2048 .f32) (w : Vec Ideal S2048x128 .f32) (r : Fin 256) (e : Fin 128) :
    k0_pay4 (F := Ideal) x w (ix2 r e) = Ideal.logistic (∑ k : Fin 2048, x (ix2 r k) * w (ix2 k e)) := by
  pointwise [k0_pay4]

theorem pay5_at (x : Vec Ideal S256x2048 .f32) (w : Vec Ideal S2048x128 .f32) (b : Vec Ideal S1x128 .f32) (r : Fin 256) (e : Fin 128) :
    k0_pay5 (F := Ideal) x w b (ix2 r e) = k0_pay4 x w (ix2 r e) + b (ix2 0 e) := by
  pointwise [k0_pay5]

/-- The first mask compares the column with the first choice's word. -/
theorem pay6_at (x : Vec Ideal S256x2048 .f32) (w : Vec Ideal S2048x128 .f32) (b : Vec Ideal S1x128 .f32) (r : Fin 256) (e : Fin 128) :
    k0_pay6 (F := Ideal) x w b (ix2 r e) = IntOp.cmpi .eq (BitVec.ofNat 32 e.val)
      (argWord (fun k => k0_pay5 x w b (ix2 r k)) (Finset.univ.fold max ⊥ fun k : Fin 128 => k0_pay5 x w b (ix2 r k))) := by
  rw [← negInf]
  pointwise [k0_pay6]
  rfl

/-- The second mask, on the row with the first choice struck out. -/
theorem pay7_at (x : Vec Ideal S256x2048 .f32) (w : Vec Ideal S2048x128 .f32) (b : Vec Ideal S1x128 .f32) (r : Fin 256) (e : Fin 128) :
    k0_pay7 (F := Ideal) x w b (ix2 r e) = IntOp.cmpi .eq (BitVec.ofNat 32 e.val)
      (argWord (fun k => Scalar.select (k0_pay6 x w b (ix2 r k)) ⊥ (k0_pay5 x w b (ix2 r k)))
        (Finset.univ.fold max ⊥ fun k : Fin 128 => Scalar.select (k0_pay6 x w b (ix2 r k)) ⊥ (k0_pay5 x w b (ix2 r k)))) := by
  rw [← negInf]
  pointwise [k0_pay7]
  rfl

theorem pay8_at (x : Vec Ideal S256x2048 .f32) (w : Vec Ideal S2048x128 .f32) (b : Vec Ideal S1x128 .f32) (r : Fin 256) (z : Fin 1) :
    k0_pay8 (F := Ideal) x w b (ix2 r z) = ∑ k : Fin 128, Scalar.select (k0_pay6 x w b (ix2 r k)) (k0_pay4 x w (ix2 r k)) 0 := by
  pointwise [k0_pay8]

theorem pay9_at (x : Vec Ideal S256x2048 .f32) (w : Vec Ideal S2048x128 .f32) (b : Vec Ideal S1x128 .f32) (r : Fin 256) (z : Fin 1) :
    k0_pay9 (F := Ideal) x w b (ix2 r z) = ∑ k : Fin 128, Scalar.select (k0_pay7 x w b (ix2 r k)) (k0_pay4 x w (ix2 r k)) 0 := by
  pointwise [k0_pay9]

theorem pay10_at (x : Vec Ideal S256x2048 .f32) (w : Vec Ideal S2048x128 .f32) (b : Vec Ideal S1x128 .f32) (r : Fin 256) (z : Fin 1) :
    k0_pay10 (F := Ideal) x w b (ix2 r z) = k0_pay8 x w b (ix2 r z) + k0_pay9 x w b (ix2 r z) + Ideal.ofBits .f32 814313567#32 := by
  pointwise [k0_pay10]

theorem pay11_at (x : Vec Ideal S256x2048 .f32) (w : Vec Ideal S2048x128 .f32) (b : Vec Ideal S1x128 .f32) (r : Fin 256) (z : Fin 1) :
    k0_pay11 (F := Ideal) x w b (ix2 r z) = Ideal.div (k0_pay8 x w b (ix2 r z)) (k0_pay10 x w b (ix2 r z)) := by
  pointwise [k0_pay11]

theorem pay14_at (v76 v88 : IVec S256x128 1) (v96 v99 v100 : FVec Ideal S256x1 .f32) (r : Fin 256) (e : Fin 128) :
    k0_pay14 (F := Ideal) v76 v88 v96 v99 v100 (ix2 r e)
      = Scalar.select (v76 (ix2 r e)) (v100 (ix2 r 0)) 0 + Scalar.select (v88 (ix2 r e)) (Ideal.div (v96 (ix2 r 0)) (v99 (ix2 r 0))) 0 := by
  pointwise [k0_pay14]

theorem pay13_at (x : Vec Ideal S256x2048 .f32) (w : Vec Ideal S1x2048 .f32) (r : Fin 256) (d : Fin 2048) :
    k0_pay13 (F := Ideal) x w (ix2 r d) = x (ix2 r d) * Ideal.rsqrt (Ideal.div (∑ k : Fin 2048, x (ix2 r k) * x (ix2 r k)) (Ideal.ofBits .f32 1157627904#32) + Ideal.ofBits .f32 897988541#32) * w (ix2 0 d) := by
  pointwise [k0_pay13, k0_pay12]

theorem pay18_at (x : Vec Ideal S256x2048 .f32) (w : Vec Ideal S1x2048 .f32) (g u : Vec Ideal S1x2048x256 .f32) (r : Fin 256) (d : Fin 256) :
    k0_pay18 (F := Ideal) x w (k0_pay15 g) (k0_pay16 u) (ix2 r d)
      = (∑ k : Fin 2048, k0_pay13 x w (ix2 r k) * g (ix3 0 k d)) * Ideal.logistic (∑ k : Fin 2048, k0_pay13 x w (ix2 r k) * g (ix3 0 k d))
        * ∑ k : Fin 2048, k0_pay13 x w (ix2 r k) * u (ix3 0 k d) := by
  pointwise [k0_pay18, k0_pay15, k0_pay16]

/-! ## The router of one row -/

section Router

variable (x : Vec Ideal S256x2048 .f32) (w : Vec Ideal S2048x128 .f32) (b : Vec Ideal S1x128 .f32) (r : Fin 256)
variable {ch : Fin 8 → EReal} {a a' : Fin 8}

theorem mask1 (h : Padded (fun k => k0_pay5 (F := Ideal) x w b (ix2 r k)) ch) (t : Top2 ch a a') (e : Fin 128) :
    k0_pay6 (F := Ideal) x w b (ix2 r e) = IntOp.cmpi .eq (BitVec.ofNat 32 e.val) (BitVec.ofNat 32 (a.castLE (by decide : 8 ≤ 128)).val) := by
  rw [pay6_at, h.first t]

theorem mask2 (h : Padded (fun k => k0_pay5 (F := Ideal) x w b (ix2 r k)) ch) (t : Top2 ch a a') (e : Fin 128) :
    k0_pay7 (F := Ideal) x w b (ix2 r e) = IntOp.cmpi .eq (BitVec.ofNat 32 e.val) (BitVec.ofNat 32 (a'.castLE (by decide : 8 ≤ 128)).val) := by
  rw [pay7_at, h.second t]
  intro k
  rw [mask1 x w b r h t, select_eq]
  by_cases hk : k = a.castLE (by decide)
  · rw [if_pos hk, if_pos ((word_eq_iff _ _).mpr hk)]
  · rw [if_neg hk, if_neg (fun e => hk ((word_eq_iff _ _).mp e))]

/-- The combine table's row: the two chosen scores over their sum. -/
theorem comb_row (h : Padded (fun k => k0_pay5 (F := Ideal) x w b (ix2 r k)) ch) (t : Top2 ch a a') (s : Fin 8 → EReal)
    (hs : ∀ j : Fin 8, k0_pay4 (F := Ideal) x w (ix2 r (j.castLE (by decide))) = s j) (e : Fin 8) :
    k0_pay14 (F := Ideal) (k0_pay6 x w b) (k0_pay7 x w b) (k0_pay9 x w b) (k0_pay10 x w b) (k0_pay11 x w b) (ix2 r (e.castLE (by decide)))
      = (if e = a then Ideal.div (s a) (s a + s a' + Ideal.ofBits .f32 814313567#32) else 0)
        + (if e = a' then Ideal.div (s a') (s a + s a' + Ideal.ofBits .f32 814313567#32) else 0) := by
  have e8 : ∀ z, k0_pay8 (F := Ideal) x w b (ix2 r z) = s a := fun z => by
    rw [pay8_at]
    simp only [mask1 x w b r h t]
    rw [sum_pick (fun k => k0_pay4 x w (ix2 r k)), hs]
  have e9 : ∀ z, k0_pay9 (F := Ideal) x w b (ix2 r z) = s a' := fun z => by
    rw [pay9_at]
    simp only [mask2 x w b r h t]
    rw [sum_pick (fun k => k0_pay4 x w (ix2 r k)), hs]
  have hi : ∀ c : Fin 8, (BitVec.ofNat 32 (e.castLE (by decide : 8 ≤ 128)).val = BitVec.ofNat 32 (c.castLE (by decide : 8 ≤ 128)).val) = (e = c) := fun c =>
    propext ((word_eq_iff _ _).trans ⟨fun h => Fin.castLE_injective _ h, fun h => h ▸ rfl⟩)
  rw [pay14_at, mask1 x w b r h t, mask2 x w b r h t, pay11_at, pay10_at, e8, e9, select_eq, select_eq]
  simp only [hi]

end Router

end Cert.KernelIdeal.Moe

end
-- ==== Proof.MoeBlocks.lean ====
module

public import proofs.«01_k».proof.Proof.MoeLaunch
public import proofs.«01_k».proof.Proof.MoeVals
public import Idealize.ShloMosaic.Lib.Routing.OpsSet

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (c : Dev nD)

/-! ## A scatter at the origin -/

/-- A scatter whose index words are all zero starts at the origin. -/
theorem start_zero {s si u : Shape} (d : ScatterDims s si u) (idx : IVec si 32) (h : ∀ i, idx i = 0#32) (j : u.Idx) (a : Fin s.rank) :
    d.start j idx a = 0 := by
  unfold ScatterDims.start
  split
  · rw [h]; rfl
  · rfl

/-- So an update of it lands where its window coordinates say. -/
theorem lands_origin {s si u : Shape} (d : ScatterDims s si u) (idx : IVec si 32) (h : ∀ i, idx i = 0#32) (j : u.Idx) (ι : s.Idx) :
    d.resultIdx? j idx = some ι ↔ ∀ a, d.window j a = (ι a).val := by
  rw [Routing.resultIdx?_eq_some]
  refine forall_congr' fun a => ?_
  rw [start_zero d idx h]
  omega

/-- The router's weights, padded to 128 columns. -/
theorem pad_cols {α : Type} (x0 : S2048x128.Idx → α) (idx : IVec S1 32) (h : ∀ i, idx i = 0#32) (u : S2048x8.Idx → α) (k : Fin 2048) (e : Fin 128) :
    Host.scatter scatter_S2048x128_S1_S2048x8_01_n_1_0 (fun _ b => b) x0 idx u (ix2 k e) = if he : e.val < 8 then u (ix2 k ⟨e.val, he⟩) else x0 (ix2 k e) := by
  have hl : ∀ (k' : Fin 2048) (e' : Fin 8), scatter_S2048x128_S1_S2048x8_01_n_1_0.resultIdx? (ix2 k' e') idx = some (ix2 k e) ↔ k' = k ∧ e'.val = e.val := fun k' e' => by
    rw [lands_origin _ _ h]
    constructor
    · intro hw
      have h0 : k'.val = k.val := hw 0
      have h1 : e'.val = e.val := hw 1
      exact ⟨Fin.ext h0, h1⟩
    · rintro ⟨rfl, he⟩ a
      match a with
      | ⟨0, _⟩ => rfl
      | ⟨1, _⟩ => exact he
  by_cases he : e.val < 8
  · rw [dif_pos he]
    refine Routing.scatter_set_hit _ _ _ _ _ _ (fun j hj => ?_) (ix2 k ⟨e.val, he⟩) ((hl _ _).2 ⟨rfl, rfl⟩)
    rw [eq_ix2 j] at hj ⊢
    obtain ⟨hk, he'⟩ := (hl _ _).1 hj
    exact congrArg u (congrArg₂ ix2 hk (Fin.ext he'))
  · rw [dif_neg he]
    refine Routing.scatter_set_miss _ _ _ _ _ fun j hj => ?_
    rw [eq_ix2 j] at hj
    exact he (((hl _ _).1 hj).2 ▸ (j 1).isLt)

/-- The router's bias, padded to 128 columns. -/
theorem pad_row {α : Type} (x0 : S1x128.Idx → α) (idx : IVec S2 32) (h : ∀ i, idx i = 0#32) (u : S8.Idx → α) (e : Fin 128) :
    Host.scatter scatter_S1x128_S2_S8_0_0_01_0 (fun _ b => b) x0 idx u (ix2 0 e) = if he : e.val < 8 then u (ix1 ⟨e.val, he⟩) else x0 (ix2 0 e) := by
  have hl : ∀ (e' : Fin 8), scatter_S1x128_S2_S8_0_0_01_0.resultIdx? (ix1 e') idx = some (ix2 0 e) ↔ e'.val = e.val := fun e' => by
    rw [lands_origin _ _ h]
    constructor
    · intro hw
      exact hw 1
    · intro he a
      match a with
      | ⟨0, _⟩ => rfl
      | ⟨1, _⟩ => exact he
  by_cases he : e.val < 8
  · rw [dif_pos he]
    refine Routing.scatter_set_hit _ _ _ _ _ _ (fun j hj => ?_) (ix1 ⟨e.val, he⟩) ((hl _).2 rfl)
    rw [eq_ix1 j] at hj ⊢
    exact congrArg u (congrArg ix1 (Fin.ext ((hl _).1 hj)))
  · rw [dif_neg he]
    refine Routing.scatter_set_miss _ _ _ _ _ fun j hj => ?_
    rw [eq_ix1 j] at hj
    exact he ((hl _).1 hj ▸ (j 0).isLt)

/-! ## The operands as the region finds them -/

theorem x0_at (t d : Fin 2048) : (blocks m c).x0 (ix2 t d) = m ((c.tc : Thread nD τ).loc main_arg0) (ix3 0 t d) := by
  show V m c main_v0 (ix2 t d) = _
  entry_read
  pointwise

theorem x1_at (d : Fin 2048) : (blocks m c).x1 (ix2 0 d) = m ((c.tc : Thread nD τ).loc main_arg1) (ix1 d) := by
  show V m c main_v10 (ix2 0 d) = _
  entry_read
  pointwise

theorem x2_at (k : Fin 2048) (e : Fin 128) :
    (blocks m c).x2 (ix2 k e) = if he : e.val < 8 then m ((c.tc : Thread nD τ).loc main_arg2) (ix2 ⟨e.val, he⟩ k) else FloatOps.ofBits .f32 0x00000000#32 := by
  have h : (blocks m c).x2 = Host.scatter scatter_S2048x128_S1_S2048x8_01_n_1_0 (fun _ b => b)
      (broadcastInDim S2048x128 ![] bcast_S_S2048x128 (constant (F := F) S_ .f32 0x00000000#32)) (broadcastInDim S1 ![] bcast_S_S1 (constantI S_ 32 0#32))
      (transpose S2048x8 [1, 0] (m ((c.tc : Thread nD τ).loc main_arg2)) transposes_S8x2048_S2048x8_1_0) := by
    have hv : (blocks m c).x2 = V m c main_v4 := by simp only [blocks]
    rw [hv]
    entry_read
    rfl
  rw [h]
  refine (pad_cols _ _ (fun i => by pointwise) _ k e).trans ?_
  split
  · pointwise
  · pointwise

theorem x3_at (e : Fin 128) :
    (blocks m c).x3 (ix2 0 e) = if he : e.val < 8 then m ((c.tc : Thread nD τ).loc main_arg3) (ix1 ⟨e.val, he⟩) else FloatOps.ofBits .f32 0xF149F2CA#32 := by
  show V m c main_v9 (ix2 0 e) = _
  entry_read
  refine (pad_row _ _ (fun i => ?_) _ e).trans ?_
  · rw [eq_ix1 i]
    generalize (i 0 : Fin 2) = z
    match z with
    | ⟨0, _⟩ => pointwise
    | ⟨1, _⟩ => pointwise
  · split
    · pointwise
    · pointwise

theorem rows_at {y : Vec F S2048x2048 .f32} (b : Fin 8) (r : Fin 256) (d : Fin 2048) :
    rows b y (ix2 r d) = y (ix2 ⟨256 * b.val + r.val, by omega⟩ d) := by
  refine congrArg y (funext fun a => ?_)
  match a with
  | ⟨0, _⟩ => exact Fin.ext (show 256 * b.val + 1 * r.val = 256 * b.val + r.val by omega)
  | ⟨1, _⟩ => exact Fin.ext (show 0 + 1 * d.val = d.val by omega)

theorem pt_val (q : Fin 32) : (pt (8 * q.val)).val = 8 * q.val := Nat.mod_eq_of_lt (by omega)

theorem g_at (q : Fin 32) (k : Fin 2048) (f : Fin 256) :
    (blocks m c).g q.val (ix3 0 k f) = m ((c.tc : Thread nD τ).loc main_arg4) (ix3 ⟨q.val / 4, by omega⟩ k ⟨q.val % 4 * 256 + f.val, by omega⟩) := by
  show iblk m c 4 (pt (8 * q.val)) (ix3 0 k f) = _
  have hp := pt_val q
  blk_point [iblk, V, idxs]

theorem u_at (q : Fin 32) (k : Fin 2048) (f : Fin 256) :
    (blocks m c).u q.val (ix3 0 k f) = m ((c.tc : Thread nD τ).loc main_arg5) (ix3 ⟨q.val / 4, by omega⟩ k ⟨q.val % 4 * 256 + f.val, by omega⟩) := by
  show iblk m c 5 (pt (8 * q.val)) (ix3 0 k f) = _
  have hp := pt_val q
  blk_point [iblk, V, idxs]

theorem w_at (q : Fin 32) (f : Fin 256) (d : Fin 2048) :
    (blocks m c).w q.val (ix3 0 f d) = m ((c.tc : Thread nD τ).loc main_arg6) (ix3 ⟨q.val / 4, by omega⟩ ⟨q.val % 4 * 256 + f.val, by omega⟩ d) := by
  show iblk m c 6 (pt (8 * q.val)) (ix3 0 f d) = _
  have hp := pt_val q
  blk_point [iblk, V, idxs]

end Cert.KernelIdeal.Moe

end
-- ==== Proof.Weights.lean ====
module

public import Idealize.ShloMosaic.Lib.Pointwise

@[expose] public section

noncomputable section

namespace Cert.Moe

open Idealize.ShloMosaic

/-! ## Scores and weights are nonnegative reals -/

theorem half : Ideal.ofBits .f32 0x3F000000#32 = (((1 : ℝ) / 2 : ℝ) : EReal) := by
  simp [Ideal.ofBits, Ideal.ieee, -EReal.coe_mul]; norm_num

/-- The small constant in the weights' denominator is a positive real. -/
theorem small : ∃ γ : ℝ, 0 < γ ∧ Ideal.ofBits .f32 814313567#32 = (γ : EReal) := by
  simp only [Ideal.ofBits, Ideal.ieee]
  simp [-EReal.coe_mul]

theorem logistic_real (x : EReal) : ∃ p : ℝ, 0 ≤ p ∧ Ideal.logistic x = (p : EReal) := by
  induction x with
  | bot => exact ⟨0, le_refl _, Ideal.logistic_bot⟩
  | top => exact ⟨1, zero_le_one, Ideal.logistic_top⟩
  | coe r => exact ⟨(1 + Real.exp (-r))⁻¹, by positivity, Ideal.logistic_coe r⟩

theorem logistic_zero : Ideal.logistic 0 = (((1 : ℝ) / 2 : ℝ) : EReal) := by
  have h := Ideal.logistic_coe 0
  rw [EReal.coe_zero] at h
  rw [h, neg_zero, Real.exp_zero]
  norm_num

theorem logistic_nonneg (x : EReal) : 0 ≤ Ideal.logistic x := by
  obtain ⟨p, hp, e⟩ := logistic_real x
  rw [e]; exact_mod_cast hp

/-- A score over the sum of two scores and the small constant. -/
theorem weight_real (x y z : EReal) : ∃ p : ℝ, 0 ≤ p ∧
    Ideal.div (Ideal.logistic x) (Ideal.logistic y + Ideal.logistic z + Ideal.ofBits .f32 814313567#32) = (p : EReal) := by
  obtain ⟨p, hp, ep⟩ := logistic_real x
  obtain ⟨q, hq, eq⟩ := logistic_real y
  obtain ⟨r, hr, er⟩ := logistic_real z
  obtain ⟨γ, hγ, eγ⟩ := small
  have hD : (0 : ℝ) < q + r + γ := by positivity
  refine ⟨p * (q + r + γ)⁻¹, by positivity, ?_⟩
  rw [ep, eq, er, eγ]
  unfold Ideal.div
  rw [← EReal.coe_add, ← EReal.coe_add, if_neg (by exact_mod_cast hD.ne'), ← EReal.coe_inv, ← EReal.coe_mul]

/-! ## The two sums -/

/-- A nonnegative real factor moves out of a sum. -/
theorem sum_mul_real {ι : Type*} (s : Finset ι) (A : ι → EReal) (p : ℝ) (hp : 0 ≤ p) : (∑ i ∈ s, A i) * (p : EReal) = ∑ i ∈ s, A i * (p : EReal) := by
  classical
  induction s using Finset.induction_on with
  | empty => simp
  | insert a s ha ih =>
    rw [Finset.sum_insert ha, Finset.sum_insert ha, EReal.right_distrib_of_nonneg_of_ne_top (by exact_mod_cast hp) (EReal.coe_ne_top _), ih]

/-- Summing the blocks of 256 hidden columns step by step, each weighted, is weighting the experts' whole sums. -/
theorem steps_sum (H : Fin 8 → Fin 1024 → EReal) (W : Fin 8 → EReal) (hW : ∀ e, ∃ p : ℝ, 0 ≤ p ∧ W e = (p : EReal)) :
    ∑ q : Fin 32, (∑ f : Fin 256, H ⟨q.val / 4, by omega⟩ ⟨q.val % 4 * 256 + f.val, by omega⟩) * W ⟨q.val / 4, by omega⟩
      = ∑ e : Fin 8, (∑ f : Fin 1024, H e f) * W e := by
  rw [Fin.sum_univ_tiles 8 4 rfl]
  refine Finset.sum_congr rfl fun e _ => ?_
  obtain ⟨p, hp, ep⟩ := hW e
  rw [Fin.sum_univ_tiles 4 256 rfl, ep, sum_mul_real _ _ p hp, ← ep]
  refine Finset.sum_congr rfl fun t _ => ?_
  have h1 : (e.val * 4 + t.val) / 4 = e.val := by omega
  have h2 : (e.val * 4 + t.val) % 4 = t.val := by omega
  simp only [h1, h2]

end Cert.Moe

end
-- ==== Proof.MoeOut.lean ====
module

public import proofs.«01_k».proof.Proof.MoeBlocks
public import proofs.«01_k».proof.Proof.Weights

@[expose] public section

set_option maxRecDepth 16384

noncomputable section

namespace Cert.KernelIdeal.Moe

open Cert.KernelIdeal Cert.KernelIdeal.Gen
open Cert.Moe (Top2 Padded steps_sum weight_real logistic_zero logistic_nonneg half)
open Idealize.ShloMosaic Idealize.ShloMosaic.TcCoe Idealize.ShloMosaic.Tactic
open Idealize.SL.Sem

/-! ## The kernel's result, element by element, over the extended reals -/

/-- What step `q` adds to an output element. -/
def term (B : Blocks Ideal) (b : Fin 8) (r : Fin 256) (d : Fin 2048) (q : ℕ) : EReal :=
  (∑ k : Fin 256, B.hid b q (ix2 r k) * B.w q (ix3 0 k d)) * B.comb b (ix2 r ⟨q / 4 % 128, Nat.mod_lt _ (by decide)⟩)

theorem acc_sum (B : Blocks Ideal) (b : Fin 8) (r : Fin 256) (d : Fin 2048) (n : ℕ) (hn : n < 32) :
    B.acc b n (ix2 r d) = rows b B.x0 (ix2 r d) + ∑ q ∈ Finset.range (n + 1), term B b r d q := by
  induction n with
  | zero =>
    rw [Finset.sum_range_one]
    exact pay2_at (rows b B.x0) (B.hid b 0) (B.w 0) (B.comb b) 0 r d
  | succ n ih =>
    rw [Finset.sum_range_succ, ← add_assoc, ← ih (by omega)]
    have he : (n + 1) / 4 = ((⟨(n + 1) / 4 % 128, Nat.mod_lt _ (by decide)⟩ : Fin 128)).val := (Nat.mod_eq_of_lt (by omega)).symm
    show k0_pay3 (BitVec.ofNat 32 ((n + 1) / 4)) (B.hid b (n + 1)) (k0_pay17 (B.w (n + 1))) (B.comb b) (B.acc b n) (ix2 r d) = _
    rw [congrArg (BitVec.ofNat 32) he]
    exact pay3_at (B.acc b n) (B.hid b (n + 1)) (B.w (n + 1)) (B.comb b) _ r d

variable (m : (ℓ : Loc nD τ sig) → Buf (Elt Ideal) ℓ) (c : Dev nD)

/-- The hidden states. -/
abbrev A0 : FVec Ideal S1x2048x2048 .f32 := m ((c.tc : Thread nD τ).loc main_arg0)

/-- The norm weights. -/
abbrev A1 : FVec Ideal S2048 .f32 := m ((c.tc : Thread nD τ).loc main_arg1)

/-- The router weights. -/
abbrev A2 : FVec Ideal S8x2048 .f32 := m ((c.tc : Thread nD τ).loc main_arg2)

/-- The router bias. -/
abbrev A3 : FVec Ideal S8 .f32 := m ((c.tc : Thread nD τ).loc main_arg3)

/-- The gate weights. -/
abbrev A4 : FVec Ideal S8x2048x1024 .f32 := m ((c.tc : Thread nD τ).loc main_arg4)

/-- The up weights. -/
abbrev A5 : FVec Ideal S8x2048x1024 .f32 := m ((c.tc : Thread nD τ).loc main_arg5)

/-- The down weights. -/
abbrev A6 : FVec Ideal S8x1024x2048 .f32 := m ((c.tc : Thread nD τ).loc main_arg6)

/-- A hidden element of a step, from the normed row. -/
theorem hid_at (b : Fin 8) (r : Fin 256) (xn : Fin 2048 → EReal)
    (hxn : ∀ k, k0_pay13 (F := Ideal) (rows b (blocks m c).x0) (blocks m c).x1 (ix2 r k) = xn k) (q : Fin 32) (f : Fin 256) :
    (blocks m c).hid b q.val (ix2 r f)
      = (∑ k : Fin 2048, A4 m c (ix3 ⟨q.val / 4, by omega⟩ k ⟨q.val % 4 * 256 + f.val, by omega⟩) * xn k)
        * Ideal.logistic (∑ k : Fin 2048, A4 m c (ix3 ⟨q.val / 4, by omega⟩ k ⟨q.val % 4 * 256 + f.val, by omega⟩) * xn k)
        * ∑ k : Fin 2048, A5 m c (ix3 ⟨q.val / 4, by omega⟩ k ⟨q.val % 4 * 256 + f.val, by omega⟩) * xn k := by
  unfold Blocks.hid
  rw [pay18_at]
  have hg : ∑ k : Fin 2048, k0_pay13 (F := Ideal) (rows b (blocks m c).x0) (blocks m c).x1 (ix2 r k) * (blocks m c).g q.val (ix3 0 k f)
      = ∑ k : Fin 2048, A4 m c (ix3 ⟨q.val / 4, by omega⟩ k ⟨q.val % 4 * 256 + f.val, by omega⟩) * xn k :=
    Finset.sum_congr rfl fun k _ => by rw [hxn, g_at, mul_comm]
  have hu : ∑ k : Fin 2048, k0_pay13 (F := Ideal) (rows b (blocks m c).x0) (blocks m c).x1 (ix2 r k) * (blocks m c).u q.val (ix3 0 k f)
      = ∑ k : Fin 2048, A5 m c (ix3 ⟨q.val / 4, by omega⟩ k ⟨q.val % 4 * 256 + f.val, by omega⟩) * xn k :=
    Finset.sum_congr rfl fun k _ => by rw [hxn, u_at, mul_comm]
  rw [hg, hu]

/-- The padded scores: the experts' own in the first eight columns. -/
theorem score_low (b : Fin 8) (r : Fin 256) (xn : Fin 2048 → EReal)
    (hxn : ∀ k, k0_pay13 (F := Ideal) (rows b (blocks m c).x0) (blocks m c).x1 (ix2 r k) = xn k) (e : Fin 8) :
    k0_pay4 (F := Ideal) (k0_pay13 (rows b (blocks m c).x0) (blocks m c).x1) (blocks m c).x2 (ix2 r (e.castLE (by decide)))
      = Ideal.logistic (∑ k : Fin 2048, xn k * A2 m c (ix2 e k)) := by
  rw [pay4_at]
  refine congrArg Ideal.logistic (Finset.sum_congr rfl fun k _ => ?_)
  rw [hxn, x2_at, dif_pos (show (e.castLE (by decide : 8 ≤ 128)).val < 8 from e.isLt)]
  rfl

/-- One half in the others. -/
theorem score_high (b : Fin 8) (r : Fin 256) (e : Fin 128) (he : 8 ≤ e.val) :
    k0_pay4 (F := Ideal) (k0_pay13 (rows b (blocks m c).x0) (blocks m c).x1) (blocks m c).x2 (ix2 r e) = Ideal.ofBits .f32 0x3F000000#32 := by
  rw [pay4_at, half, ← logistic_zero]
  refine congrArg Ideal.logistic (Finset.sum_eq_zero fun k _ => ?_)
  rw [x2_at, dif_neg (by omega)]
  show _ * Ideal.ofBits .f32 0x00000000#32 = 0
  rw [Ideal.ofBits_zero_f32, mul_zero]

/-- The padded choices: the padding lies below every expert's. -/
theorem padded (b : Fin 8) (r : Fin 256) (xn : Fin 2048 → EReal)
    (hxn : ∀ k, k0_pay13 (F := Ideal) (rows b (blocks m c).x0) (blocks m c).x1 (ix2 r k) = xn k)
    (hb : ∀ e : Fin 8, Ideal.ofBits .f32 0xF149F2CA#32 < A3 m c (ix1 e) - Ideal.ofBits .f32 0x3F000000#32) :
    Padded (fun e => k0_pay5 (F := Ideal) (k0_pay13 (rows b (blocks m c).x0) (blocks m c).x1) (blocks m c).x2 (blocks m c).x3 (ix2 r e))
      (fun e => Ideal.logistic (∑ k : Fin 2048, xn k * A2 m c (ix2 e k)) + A3 m c (ix1 e)) where
  low e := by
    rw [pay5_at, score_low m c b r xn hxn, x3_at, dif_pos (show (e.castLE (by decide : 8 ≤ 128)).val < 8 from e.isLt)]
    rfl
  high e he j := by
    rw [pay5_at, score_high m c b r e he, x3_at, dif_neg (by omega)]
    refine lt_of_lt_of_le (b := A3 m c (ix1 j)) ?_ (le_add_of_nonneg_left (logistic_nonneg _))
    rw [add_comm]
    exact EReal.add_lt_of_lt_sub (hb j)

/-- The kernel's result at a row and a column, once the row's two greatest choices are known. -/
theorem out_at (b : Fin 8) (r : Fin 256) (d : Fin 2048) (xn : Fin 2048 → EReal)
    (hxn : ∀ k, k0_pay13 (F := Ideal) (rows b (blocks m c).x0) (blocks m c).x1 (ix2 r k) = xn k)
    (hb : ∀ e : Fin 8, Ideal.ofBits .f32 0xF149F2CA#32 < A3 m c (ix1 e) - Ideal.ofBits .f32 0x3F000000#32)
    (s : Fin 8 → EReal) (hs : ∀ e, Ideal.logistic (∑ k : Fin 2048, xn k * A2 m c (ix2 e k)) = s e)
    {a a' : Fin 8} (T : Top2 (fun e => s e + A3 m c (ix1 e)) a a') :
    (blocks m c).acc b 31 (ix2 r d)
      = A0 m c (ix3 0 ⟨256 * b.val + r.val, by omega⟩ d)
        + ∑ e : Fin 8, (∑ f : Fin 1024, (∑ k : Fin 2048, A4 m c (ix3 e k f) * xn k)
            * Ideal.logistic (∑ k : Fin 2048, A4 m c (ix3 e k f) * xn k)
            * (∑ k : Fin 2048, A5 m c (ix3 e k f) * xn k) * A6 m c (ix3 e f d))
          * ((if e = a then Ideal.div (s a) (s a + s a' + Ideal.ofBits .f32 814313567#32) else 0)
            + (if e = a' then Ideal.div (s a') (s a + s a' + Ideal.ofBits .f32 814313567#32) else 0)) := by
  have hP := padded m c b r xn hxn hb
  simp only [hs] at hP
  rw [acc_sum _ _ _ _ _ (by decide), Finset.sum_range, rows_at, x0_at]
  refine congrArg (A0 m c (ix3 0 ⟨256 * b.val + r.val, by omega⟩ d) + ·) ?_
  refine Eq.trans ?_ (steps_sum (fun e f => (∑ k : Fin 2048, A4 m c (ix3 e k f) * xn k)
            * Ideal.logistic (∑ k : Fin 2048, A4 m c (ix3 e k f) * xn k)
            * (∑ k : Fin 2048, A5 m c (ix3 e k f) * xn k) * A6 m c (ix3 e f d))
    (fun e => (if e = a then Ideal.div (s a) (s a + s a' + Ideal.ofBits .f32 814313567#32) else 0)
            + (if e = a' then Ideal.div (s a') (s a + s a' + Ideal.ofBits .f32 814313567#32) else 0)) fun e => ?_)
  · refine Finset.sum_congr rfl fun q _ => ?_
    unfold term
    have hq : (⟨q.val / 4 % 128, Nat.mod_lt _ (by decide)⟩ : Fin 128) = (⟨q.val / 4, by omega⟩ : Fin 8).castLE (by decide) :=
      Fin.ext (Nat.mod_eq_of_lt (by omega))
    rw [hq]
    refine congrArg₂ (· * ·) (Finset.sum_congr rfl fun f _ => ?_) ?_
    · rw [hid_at m c b r xn hxn q f, w_at m c q f d]
    · exact comb_row _ _ _ r hP T s (fun j => (score_low m c b r xn hxn j).trans (hs j)) _
  · have h0 : ∃ p : ℝ, 0 ≤ p ∧ Ideal.div (s a) (s a + s a' + Ideal.ofBits .f32 814313567#32) = (p : EReal) := by
      rw [← hs a, ← hs a']; exact weight_real _ _ _
    have h1 : ∃ p : ℝ, 0 ≤ p ∧ Ideal.div (s a') (s a + s a' + Ideal.ofBits .f32 814313567#32) = (p : EReal) := by
      rw [← hs a, ← hs a']; exact weight_real _ _ _
    obtain ⟨p, hp, ep⟩ := h0
    obtain ⟨p', hp', ep'⟩ := h1
    have hz : ∀ (P : Prop) [Decidable P] (p : ℝ), 0 ≤ p → ∃ x : ℝ, 0 ≤ x ∧ (if P then (p : EReal) else 0) = (x : EReal) := fun P _ p hp => by
      by_cases h : P
      · exact ⟨p, hp, if_pos h⟩
      · exact ⟨0, le_refl _, if_neg h⟩
    obtain ⟨x, hx, ex⟩ := hz (e = a) p hp
    obtain ⟨x', hx', ex'⟩ := hz (e = a') p' hp'
    exact ⟨x + x', add_nonneg hx hx', by rw [ep, ep', ex, ex', EReal.coe_add]⟩

end Cert.KernelIdeal.Moe

end
-- ==== Proof.RefTerm.lean ====
module

public import proofs.«01_k».proof.Proof.Gen.ReferenceIdeal
public import Idealize.ShloMosaic.Lib.Claim
public import Idealize.ShloMosaic.Lib.Pointwise
public import Idealize.ShloMosaic.Lib.Quiescent

@[expose] public section

set_option maxRecDepth 16384

noncomputable section

namespace Cert.ReferenceIdeal.Moe

open Cert.ReferenceIdeal
open Idealize.ShloMosaic Idealize.ShloMosaic.TcCoe Idealize.SL.Sem
open Cert.ReferenceIdeal.Gen

variable {F : FTy → Type} [FloatOps F]

/-! ## The reference's arrays, stage by stage -/

/-- The hidden states normalized, as rows. -/
def norm (x : FVec F S1x2048x2048 .f32) (w : FVec F S2048 .f32) : FVec F S2048x2048 .f32 :=
  shapeCast S2048x2048 (mulf (broadcastInDim S1x2048x2048 ![0, 1, 2] bcast_S1x1x2048_S1x2048x2048_0_1_2 (broadcastInDim S1x1x2048 ![2] bcast_S2048_S1x1x2048_2 w))
    (mulf x (broadcastInDim S1x2048x2048 ![0, 1, 2] bcast_S1x2048x1_S1x2048x2048_0_1_2
      (Host.rsqrt (addf (Host.divf (broadcastInDim S1x2048x1 ![0, 1] bcast_S1x2048_S1x2048x1_0_1
          (Host.reduceAdd (mulf x x) (constant S_ .f32 0x00000000#32) reducesTo_S1x2048x2048_S1x2048_d2 h_S_))
        (broadcastInDim S1x2048x1 ![] bcast_S_S1x2048x1 (constant S_ .f32 0x45000000#32)))
        (broadcastInDim S1x2048x1 ![] bcast_S_S1x2048x1 (constant S_ .f32 0x358637BD#32))))))) shapeCasts_S1x2048x2048_S2048x2048

/-- The router's scores. -/
def scores (xn : FVec F S2048x2048 .f32) (rw : FVec F S8x2048 .f32) : FVec F S2048x8 .f32 :=
  Host.divf (broadcastInDim S2048x8 ![] bcast_S_S2048x8 (constant S_ .f32 0x3F800000#32))
    (addf (broadcastInDim S2048x8 ![] bcast_S_S2048x8 (constant S_ .f32 0x3F800000#32))
      (Host.exp (Host.negf (Host.dotGeneral dot_S2048x2048_S2048x8_S2048x8_1_0_0_1_n_n none xn (transpose S2048x8 [1, 0] rw transposes_S8x2048_S2048x8_1_0)))))

/-- The scores with the bias added. -/
def choice (s : FVec F S2048x8 .f32) (b : FVec F S8 .f32) : FVec F S2048x8 .f32 :=
  addf s (broadcastInDim S2048x8 ![0, 1] bcast_S1x8_S2048x8_0_1 (broadcastInDim S1x8 ![1] bcast_S8_S1x8_1 b))

/-- The two experts chosen. -/
def chosen (ch : FVec F S2048x8 .f32) : IVec S2048x2 32 :=
  (Host.topK S2048x2 1 (FloatOps.cmpfTotal .gt) ch sliceFits_S2048x8_S2048x2).2

/-- An index counted from the end made one from the start. -/
def wrapped (i : IVec S2048x2 32) : IVec S2048x2 32 :=
  select (cmpi .slt i (broadcastInDim S2048x2 ![] bcast_S_S2048x2 (constantI S_ 32 0#32)))
    (addi i (broadcastInDim S2048x2 ![] bcast_S_S2048x2 (constantI S_ 32 8#32))) i

/-- The scores of the chosen experts. -/
def affin (s : FVec F S2048x8 .f32) (i : IVec S2048x2 32) : FVec F S2048x2 .f32 :=
  select (Host.reduce IntOp.andi
      (andi (cmpi .sge (shapeCast S2048x2x1 (wrapped i) shapeCasts_S2048x2_S2048x2x1) (broadcastInDim S2048x2x1 ![] bcast_S_S2048x2x1 (constantI S_ 32 0#32)))
        (cmpi .sle (shapeCast S2048x2x1 (wrapped i) shapeCasts_S2048x2_S2048x2x1)
          (broadcastInDim S2048x2x1 ![0, 1, 2] bcast_S1x1x1_S2048x2x1_0_1_2 (broadcastInDim S1x1x1 ![2] bcast_S1_S1x1x1_2 (constantI S1 32 7#32)))))
      (constantI S_ 1 1#1) reducesTo_S2048x2x1_S2048x2_d2 h_S_)
    (Host.gather gather_S2048x8_S2048x2x1_S2048x2_n_1_0_0_1_2_11 s (shapeCast S2048x2x1 (wrapped i) shapeCasts_S2048x2_S2048x2x1))
    (broadcastInDim S2048x2 ![] bcast_S_S2048x2 (constant S_ .f32 0x7FC00000#32))

/-- They made to sum to one. -/
def weights (a : FVec F S2048x2 .f32) : FVec F S2048x2 .f32 :=
  Host.divf a (broadcastInDim S2048x2 ![0, 1] bcast_S2048x1_S2048x2_0_1
    (addf (broadcastInDim S2048x1 ![0] bcast_S2048_S2048x1_0 (Host.reduceAdd a (constant S_ .f32 0x00000000#32) reducesTo_S2048x2_S2048_d1 h_S_))
      (broadcastInDim S2048x1 ![] bcast_S_S2048x1 (constant S_ .f32 0x3089705F#32))))

/-- The places of the table that they go to. -/
def places (i : IVec S2048x2 32) : IVec S2048x2x2 32 :=
  concatenate S2048x2x2 2 [⟨S2048x2x1, broadcastInDim S2048x2x1 ![0, 1] bcast_S2048x2_S2048x2x1_0_1 (broadcastInDim S2048x2 ![0, 1] bcast_S2048x1_S2048x2_0_1
      (select (cmpi .slt (broadcastInDim S2048x1 ![0] bcast_S2048_S2048x1_0 (iotaInDim S2048 32 0)) (broadcastInDim S2048x1 ![] bcast_S_S2048x1 (constantI S_ 32 0#32)))
        (addi (broadcastInDim S2048x1 ![0] bcast_S2048_S2048x1_0 (iotaInDim S2048 32 0)) (broadcastInDim S2048x1 ![] bcast_S_S2048x1 (constantI S_ 32 2048#32)))
        (broadcastInDim S2048x1 ![0] bcast_S2048_S2048x1_0 (iotaInDim S2048 32 0))))⟩,
    ⟨S2048x2x1, broadcastInDim S2048x2x1 ![0, 1] bcast_S2048x2_S2048x2x1_0_1 (wrapped i)⟩] concatenates_S2048x2x1_S2048x2x1_S2048x2x2_d2

/-- The table of combine weights. -/
def table (p : IVec S2048x2x2 32) (a : FVec F S2048x2 .f32) : FVec F S2048x8 .f32 :=
  Host.scatterAdd scatter_S2048x8_S2048x2x2_S2048x2_n_01_01_2 (broadcastInDim S2048x8 ![] bcast_S_S2048x8 (constant S_ .f32 0x00000000#32)) p a

/-- A projection of the rows by every expert. -/
def project (w : FVec F S8x2048x1024 .f32) (xn : FVec F S2048x2048 .f32) : FVec F S8x2048x1024 .f32 :=
  transpose S8x2048x1024 [0, 2, 1] (Host.dotGeneral dot_S8x2048x1024_S2048x2048_S8x1024x2048_1_1_02_0_n_n none w xn) transposes_S8x1024x2048_S8x2048x1024_0_2_1

/-- The gate's activation. -/
def silu (g : FVec F S8x2048x1024 .f32) : FVec F S8x2048x1024 .f32 :=
  mulf g (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g))))

/-- Every expert's output. -/
def experts (g u : FVec F S8x2048x1024 .f32) (dn : FVec F S8x1024x2048 .f32) : FVec F S8x2048x2048 .f32 :=
  Host.dotGeneral dot_S8x2048x1024_S8x1024x2048_S8x2048x2048_2_1_1_2_0_0 none (mulf (silu g) u) dn

/-- The outputs weighted and summed, plus the hidden states. -/
def combined (eo : FVec F S8x2048x2048 .f32) (tbl : FVec F S2048x8 .f32) (x : FVec F S1x2048x2048 .f32) : FVec F S2048x2048 .f32 :=
  shapeCast S2048x2048 (addf (shapeCast S1x2048x2048 (Host.dotGeneral dot_S8x2048x2048_S2048x8_S2048x2048_0_1_2_n_1_0 none eo tbl) shapeCasts_S2048x2048_S1x2048x2048) x)
    shapeCasts_S1x2048x2048_S2048x2048

/-- The reference's result. -/
def result (x : FVec F S1x2048x2048 .f32) (w : FVec F S2048 .f32) (rw : FVec F S8x2048 .f32) (b : FVec F S8 .f32)
    (g u : FVec F S8x2048x1024 .f32) (dn : FVec F S8x1024x2048 .f32) : FVec F S2048x2048 .f32 :=
  combined (experts (project g (norm x w)) (project u (norm x w)) dn)
    (table (places (chosen (choice (scores (norm x w) rw) b)))
      (weights (affin (scores (norm x w) rw) (chosen (choice (scores (norm x w) rw) b))))) x

set_option maxHeartbeats 1600000 in
/-- The reference's run: its result is the composed term, its arguments are unchanged. -/
theorem ran (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v60) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  · repeat rw [StableHlo.launchContents_devRef]
    generalize m ((c.tc : Thread nD τ).loc main_arg0) = x, m ((c.tc : Thread nD τ).loc main_arg1) = w, m ((c.tc : Thread nD τ).loc main_arg2) = rw',
      m ((c.tc : Thread nD τ).loc main_arg3) = b, m ((c.tc : Thread nD τ).loc main_arg4) = g, m ((c.tc : Thread nD τ).loc main_arg5) = u,
      m ((c.tc : Thread nD τ).loc main_arg6) = dn
    clear * -
    simp -implicitDefEqProofs only [StableHlo.TRef.ofBuf_toBuf]
    simp -implicitDefEqProofs only [StableHlo.TRef.toBuf, StableHlo.TRef.ofBuf, cast_cast, cast_eq]
    eta_reduce
    unfold result combined experts silu project table places weights affin wrapped chosen choice scores norm
    rfl

/-- The reference's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_mono (ran m ρ) fun r h => ⟨fun c => (h c).2, sem_eq_zero_of_no_sems (by decide) r.2⟩

end Cert.ReferenceIdeal.Moe

end
-- ==== Proof.RefVals.lean ====
module

public import proofs.«01_k».proof.Proof.RefTerm
public import proofs.«01_k».proof.Proof.Top2
public import Idealize.ShloMosaic.Lib.Routing.OpsPair

@[expose] public section

set_option maxRecDepth 16384

noncomputable section

namespace Cert.ReferenceIdeal.Moe

open Cert.ReferenceIdeal
open Cert.Moe (Top2 gtB)
open Idealize.ShloMosaic Idealize.ShloMosaic.TcCoe Idealize.SL.Sem
open Cert.ReferenceIdeal.Gen

/-! ## The reference's arrays, element by element, over the extended reals -/

theorem norm_at (x : FVec Ideal S1x2048x2048 .f32) (w : FVec Ideal S2048 .f32) (t d : Fin 2048) :
    norm x w (ix2 t d) = w (ix1 d) * (x (ix3 0 t d) * Ideal.rsqrt (Ideal.div (∑ k : Fin 2048, x (ix3 0 t k) * x (ix3 0 t k)) (Ideal.ofBits .f32 1157627904#32)
      + Ideal.ofBits .f32 897988541#32)) := by
  unfold norm
  pointwise

theorem scores_at (xn : FVec Ideal S2048x2048 .f32) (rw : FVec Ideal S8x2048 .f32) (t : Fin 2048) (e : Fin 8) :
    scores xn rw (ix2 t e) = Ideal.logistic (∑ k : Fin 2048, xn (ix2 t k) * rw (ix2 e k)) := by
  unfold scores
  pointwise
  rfl

theorem choice_at (s : FVec Ideal S2048x8 .f32) (b : FVec Ideal S8 .f32) (t : Fin 2048) (e : Fin 8) :
    choice s b (ix2 t e) = s (ix2 t e) + b (ix1 e) := by
  unfold choice
  pointwise

theorem weights_at (a : FVec Ideal S2048x2 .f32) (t : Fin 2048) (k : Fin 2) :
    weights a (ix2 t k) = Ideal.div (a (ix2 t k)) (a (ix2 t 0) + a (ix2 t 1) + Ideal.ofBits .f32 814313567#32) := by
  unfold weights
  pointwise
  rw [Fin.sum_univ_two]

theorem project_at (w : FVec Ideal S8x2048x1024 .f32) (xn : FVec Ideal S2048x2048 .f32) (e : Fin 8) (t : Fin 2048) (f : Fin 1024) :
    project w xn (ix3 e t f) = ∑ k : Fin 2048, w (ix3 e k f) * xn (ix2 t k) := by
  unfold project
  pointwise

theorem silu_at (w : FVec Ideal S8x2048x1024 .f32) (e : Fin 8) (t : Fin 2048) (f : Fin 1024) :
    silu w (ix3 e t f) = w (ix3 e t f) * Ideal.logistic (w (ix3 e t f)) := by
  unfold silu
  pointwise
  rfl

theorem experts_at (g u : FVec Ideal S8x2048x1024 .f32) (dn : FVec Ideal S8x1024x2048 .f32) (e : Fin 8) (t : Fin 2048) (d : Fin 2048) :
    experts g u dn (ix3 e t d) = ∑ f : Fin 1024, silu g (ix3 e t f) * u (ix3 e t f) * dn (ix3 e f d) := by
  unfold experts
  pointwise

theorem combined_at (eo : FVec Ideal S8x2048x2048 .f32) (tbl : FVec Ideal S2048x8 .f32) (x : FVec Ideal S1x2048x2048 .f32) (t : Fin 2048) (d : Fin 2048) :
    combined eo tbl x (ix2 t d) = (∑ e : Fin 8, eo (ix3 e t d) * tbl (ix2 t e)) + x (ix3 0 t d) := by
  unfold combined
  pointwise

/-! ## The router -/

theorem toInt_small (n : ℕ) (h : n < 2048) : (BitVec.ofNat 32 n).toInt = n := Cert.Moe.toInt_ofNat_lt (by omega)

/-- A small index is not counted from the end. -/
theorem keep (n : ℕ) (h : n < 2048) (a : BitVec 32) : Scalar.select (IntOp.cmpi .slt (BitVec.ofNat 32 n) 0#32) a (BitVec.ofNat 32 n) = BitVec.ofNat 32 n := by
  refine Routing.wrap_of_lt _ _ ?_
  rw [BitVec.toNat_ofNat, Nat.mod_eq_of_lt (by omega)]
  show n < 2147483648
  omega

theorem wrapped_at (i : IVec S2048x2 32) (t : Fin 2048) (k : Fin 2) (c : Fin 8) (h : i (ix2 t k) = BitVec.ofNat 32 c.val) :
    wrapped i (ix2 t k) = BitVec.ofNat 32 c.val := by
  unfold wrapped
  pointwise
  rw [h]
  exact keep _ (by have := c.isLt; omega) _

/-- The two experts chosen are the two greatest, ties to the lower index. -/
theorem chosen_at (ch : FVec Ideal S2048x8 .f32) (t : Fin 2048) {a a' : Fin 8} (T : Top2 (fun e => ch (ix2 t e)) a a') (k : Fin 2) :
    chosen ch (ix2 t k) = BitVec.ofNat 32 ((![a, a'] : Fin 2 → Fin 8) k).val := by
  rw [← T.sorted k]
  have hal : ∀ c : Fin 8, (ix2 t (k.castLE (by decide : 2 ≤ 8)) : S2048x8.Idx).along (1 : Fin 2) c = ix2 t c := fun c => by
    funext b
    match b with
    | ⟨0, _⟩ => rfl
    | ⟨1, _⟩ => rfl
  have hix : (fun b : Fin 2 => ⟨0 + ((ix2 t k : S2048x2.Idx) b).val, by
      have := ((ix2 t k : S2048x2.Idx) b).isLt
      match b with
      | ⟨0, _⟩ => have := t.isLt; show 0 + t.val < 2048; omega
      | ⟨1, _⟩ => have := k.isLt; show 0 + k.val < 8; omega⟩ : S2048x8.Idx) = ix2 t (k.castLE (by decide : 2 ≤ 8)) := by
    funext b
    match b with
    | ⟨0, _⟩ => exact Fin.ext (Nat.zero_add _)
    | ⟨1, _⟩ => exact Fin.ext (Nat.zero_add _)
  refine Eq.trans (b := (Host.sort2 S2048x8 1 (fun l r => FloatOps.cmpfTotal (F := Ideal) .gt l.1 r.1) ch
    (iotaInDim S2048x8 32 1)).2 (ix2 t (k.castLE (by decide : 2 ≤ 8)))) ?_ ?_
  · exact congrArg (Host.sort2 S2048x8 1 (fun l r => FloatOps.cmpfTotal (F := Ideal) .gt l.1 r.1) ch
      (iotaInDim S2048x8 32 1)).2 hix
  · unfold Host.sort2
    rw [dif_pos (by decide)]
    refine Eq.trans (b := iotaInDim S2048x8 32 1 (ix2 t (sortedFrom (gtB fun e => ch (ix2 t e)) (k.castLE (by decide))))) ?_ rfl
    refine Eq.trans (congrArg (iotaInDim S2048x8 32 1) (hal _)) ?_
    refine congrArg (fun c => iotaInDim S2048x8 32 1 (ix2 t c)) ?_
    refine congrArg (fun f : Fin 8 → Fin 8 → Bool => sortedFrom f (k.castLE (by decide))) ?_
    funext c c'
    refine (congrArg₂ (fun p q : EReal => FloatOps.cmpfTotal (F := Ideal) (φ := .f32) .gt p q == 1#1) (congrArg ch (hal c)) (congrArg ch (hal c'))).trans ?_
    change (BitVec.ofBool (decide (ch (ix2 t (c' : Fin 8)) < ch (ix2 t (c : Fin 8)))) == 1#1) = decide (ch (ix2 t (c' : Fin 8)) < ch (ix2 t (c : Fin 8)))
    cases decide (ch (ix2 t c') < ch (ix2 t c)) <;> rfl

/-- The scores of the experts chosen. -/
theorem affin_at (s : FVec Ideal S2048x8 .f32) (i : IVec S2048x2 32) (t : Fin 2048) (k : Fin 2) (c : Fin 8) (h : i (ix2 t k) = BitVec.ofNat 32 c.val) :
    affin s i (ix2 t k) = s (ix2 t c) := by
  have hw := wrapped_at i t k c h
  have hg : Host.gather gather_S2048x8_S2048x2x1_S2048x2_n_1_0_0_1_2_11 s (shapeCast S2048x2x1 (wrapped i) shapeCasts_S2048x2_S2048x2x1) (ix2 t k) = s (ix2 t c) := by
    have hc : shapeCast S2048x2x1 (wrapped i) shapeCasts_S2048x2_S2048x2x1 (ix3 t k 0) = BitVec.ofNat 32 c.val := by
      pointwise
      exact hw
    generalize shapeCast S2048x2x1 (wrapped i) shapeCasts_S2048x2_S2048x2x1 = ix at hc
    unfold Host.gather
    refine congrArg s (funext fun b => Fin.ext ?_)
    match b with
    | ⟨0, _⟩ =>
      show GatherDims.start gather_S2048x8_S2048x2x1_S2048x2_n_1_0_0_1_2_11 (ix2 t k) ix 0 + t.val + 0 = t.val
      rw [GatherDims.start_batching _ _ _ _ (by decide)]; omega
    | ⟨1, _⟩ =>
      show GatherDims.start gather_S2048x8_S2048x2x1_S2048x2_n_1_0_0_1_2_11 (ix2 t k) ix 1 + 0 + 0 = c.val
      have hs : GatherDims.start gather_S2048x8_S2048x2x1_S2048x2_n_1_0_0_1_2_11 (ix2 t k) ix 1 = min (ix (ix3 t k 0)).toInt.toNat 7 := by
        unfold GatherDims.start
        rw [dif_pos (by decide)]
        refine congrArg (fun j => min (ix j).toInt.toNat 7) (funext fun b => ?_)
        match b with
        | ⟨0, _⟩ => rfl
        | ⟨1, _⟩ => rfl
        | ⟨2, _⟩ => rfl
      rw [hs, hc, toInt_small _ (by have := c.isLt; omega)]
      have := c.isLt
      omega
  unfold affin
  pointwise
  rw [hg, hw]
  have hcond : ∀ c : Fin 8, IntOp.andi (IntOp.cmpi .sge (BitVec.ofNat 32 c.val) 0#32) (IntOp.cmpi .sle (BitVec.ofNat 32 c.val) 7#32) = 1#1 := by decide
  rw [hcond c]
  rfl

/-- The places of the table: the row, and the expert. -/
theorem places_at0 (i : IVec S2048x2 32) (t : Fin 2048) (k : Fin 2) : places i (ix3 t k 0) = BitVec.ofNat 32 t.val := by
  unfold places
  pointwise
  exact keep _ t.isLt _

theorem places_at1 (i : IVec S2048x2 32) (t : Fin 2048) (k : Fin 2) : places i (ix3 t k 1) = wrapped i (ix2 t k) := by
  unfold places
  pointwise

/-- The table of combine weights, at a row whose two experts are known. -/
theorem table_at (i : IVec S2048x2 32) (u : FVec Ideal S2048x2 .f32) (t : Fin 2048) {a a' : Fin 8}
    (hi : ∀ (t : Fin 2048) (k : Fin 2), ∃ c : Fin 8, i (ix2 t k) = BitVec.ofNat 32 c.val)
    (h0 : i (ix2 t 0) = BitVec.ofNat 32 a.val) (h1 : i (ix2 t 1) = BitVec.ofNat 32 a'.val) (e : Fin 8) :
    table (places i) u (ix2 t e) = (if e = a then u (ix2 t 0) else 0) + (if e = a' then u (ix2 t 1) else 0) := by
  have hland : ∀ (t' : Fin 2048) (k : Fin 2) (c : Fin 8), i (ix2 t' k) = BitVec.ofNat 32 c.val →
      (scatter_S2048x8_S2048x2x2_S2048x2_n_01_01_2.resultIdx? (ix2 t' k) (places i) = some (ix2 t e) ↔ t' = t ∧ c = e) := fun t' k c hc => by
    refine Iff.trans (Routing.scatter_lands2 scatter_S2048x8_S2048x2x2_S2048x2_n_01_01_2 rfl rfl rfl (places i) t' k t e) ?_
    change (places i (ix3 t' k 0)).toInt = _ ∧ (places i (ix3 t' k 1)).toInt = _ ↔ _
    rw [places_at0, places_at1, wrapped_at i t' k c hc,
      toInt_small _ t'.isLt, toInt_small _ (by have := c.isLt; omega)]
    exact ⟨fun h => ⟨Fin.ext (by exact_mod_cast h.1), Fin.ext (by exact_mod_cast h.2)⟩, fun h => by rw [h.1, h.2]; exact ⟨rfl, rfl⟩⟩
  show (broadcastInDim S2048x8 ![] bcast_S_S2048x8 (constant (F := Ideal) S_ .f32 0x00000000#32)) (ix2 t e)
    + ∑ j ∈ Finset.univ.filter (fun j => scatter_S2048x8_S2048x2x2_S2048x2_n_01_01_2.resultIdx? j (places i) = some (ix2 t e)), u j = _
  have hz : (broadcastInDim S2048x8 ![] bcast_S_S2048x8 (constant (F := Ideal) S_ .f32 0x00000000#32)) (ix2 t e) = 0 := by pointwise
  rw [hz, zero_add]
  rw [Finset.sum_filter, sum_idx2, Finset.sum_eq_single t]
  · rw [Fin.sum_univ_two]
    refine congrArg₂ (· + ·) (if_congr ((hland t 0 a h0).trans ?_) rfl rfl) (if_congr ((hland t 1 a' h1).trans ?_) rfl rfl)
    · exact ⟨fun h => h.2.symm, fun h => ⟨rfl, h.symm⟩⟩
    · exact ⟨fun h => h.2.symm, fun h => ⟨rfl, h.symm⟩⟩
  · intro t' _ hn
    refine Finset.sum_eq_zero fun k _ => ?_
    obtain ⟨c, hc⟩ := hi t' k
    exact if_neg fun h => hn ((hland t' k c hc).1 h).1
  · exact fun h => absurd (Finset.mem_univ t) h

/-- The table the reference builds, at a row whose two greatest choices are known. -/
theorem router_at (s : FVec Ideal S2048x8 .f32) (b : FVec Ideal S8 .f32) (t : Fin 2048) {a a' : Fin 8}
    (T : Top2 (fun e => s (ix2 t e) + b (ix1 e)) a a') (e : Fin 8) :
    table (places (chosen (choice s b))) (weights (affin s (chosen (choice s b)))) (ix2 t e)
      = (if e = a then Ideal.div (s (ix2 t a)) (s (ix2 t a) + s (ix2 t a') + Ideal.ofBits .f32 814313567#32) else 0)
        + (if e = a' then Ideal.div (s (ix2 t a')) (s (ix2 t a) + s (ix2 t a') + Ideal.ofBits .f32 814313567#32) else 0) := by
  have hT : Top2 (fun e => choice s b (ix2 t e)) a a' := by
    have : (fun e => choice s b (ix2 t e)) = fun e => s (ix2 t e) + b (ix1 e) := funext fun e => choice_at s b t e
    rw [this]; exact T
  have h0 : chosen (choice s b) (ix2 t 0) = BitVec.ofNat 32 a.val := chosen_at _ t hT 0
  have h1 : chosen (choice s b) (ix2 t 1) = BitVec.ofNat 32 a'.val := chosen_at _ t hT 1
  rw [table_at (chosen (choice s b)) _ t (fun t k => ?_) h0 h1, weights_at, weights_at, affin_at s _ t 0 a h0, affin_at s _ t 1 a' h1]
  obtain ⟨c, c', hc⟩ := Top2.exists fun e => choice s b (ix2 t e)
  exact ⟨_, chosen_at _ t hc k⟩

/-- The reference's result, at an index, once the row's two greatest choices are known. -/
theorem result_at (x : FVec Ideal S1x2048x2048 .f32) (w : FVec Ideal S2048 .f32) (rw' : FVec Ideal S8x2048 .f32) (b : FVec Ideal S8 .f32)
    (g u : FVec Ideal S8x2048x1024 .f32) (dn : FVec Ideal S8x1024x2048 .f32) (t d : Fin 2048) (s : Fin 8 → EReal)
    (hs : ∀ e, Ideal.logistic (∑ k : Fin 2048, norm x w (ix2 t k) * rw' (ix2 e k)) = s e)
    {a a' : Fin 8} (T : Top2 (fun e => s e + b (ix1 e)) a a') :
    result x w rw' b g u dn (ix2 t d)
      = (∑ e : Fin 8, (∑ f : Fin 1024, (∑ k : Fin 2048, g (ix3 e k f) * norm x w (ix2 t k))
            * Ideal.logistic (∑ k : Fin 2048, g (ix3 e k f) * norm x w (ix2 t k))
            * (∑ k : Fin 2048, u (ix3 e k f) * norm x w (ix2 t k)) * dn (ix3 e f d))
          * ((if e = a then Ideal.div (s a) (s a + s a' + Ideal.ofBits .f32 814313567#32) else 0)
            + (if e = a' then Ideal.div (s a') (s a + s a' + Ideal.ofBits .f32 814313567#32) else 0)))
        + x (ix3 0 t d) := by
  have hsc : ∀ e, scores (norm x w) rw' (ix2 t e) = s e := fun e => (scores_at _ _ t e).trans (hs e)
  have hT : Top2 (fun e => scores (norm x w) rw' (ix2 t e) + b (ix1 e)) a a' := by
    have : (fun e => scores (norm x w) rw' (ix2 t e) + b (ix1 e)) = fun e => s e + b (ix1 e) := funext fun e => by rw [hsc]
    rw [this]; exact T
  unfold result
  rw [combined_at]
  refine congrArg (· + x (ix3 0 t d)) (Finset.sum_congr rfl fun e _ => ?_)
  rw [router_at _ _ t hT e, hsc, hsc, experts_at]
  refine congrArg (· * _) (Finset.sum_congr rfl fun f _ => ?_)
  rw [silu_at, project_at, project_at]

end Cert.ReferenceIdeal.Moe

end
-- ==== Proof.MoeEq.lean ====
module

public import proofs.«01_k».proof.Proof.MoeOut
public import proofs.«01_k».proof.Proof.RefVals
public import proofs.«01_k».proof.Pre_bias_above_padding
public import Idealize.ShloMosaic.Lib.ReduceAll
public import Idealize.ShloMosaic.Lib.WordCmp

@[expose] public section

set_option maxRecDepth 16384

noncomputable section

namespace Cert.Moe

open Idealize.ShloMosaic Idealize.ShloMosaic.TcCoe
open Cert.KernelIdeal.Moe (blocks rows rows_at x0_at x1_at out_at A0 A1 A2 A3 A4 A5 A6)

/-! ## The precondition -/

/-- The side conditions of the precondition's operations. -/
theorem preFacts : Cert.Pre_bias_above_padding.Facts where
  bcast_S_S8 := by decide
  reducesTo_S8_S_d0 := by decide
  h_S_ := by decide

/-- What the precondition says of the router's bias. -/
theorem bias_above [Cert.Pre_bias_above_padding.Facts] (a0 : FVec Ideal Cert.Pre_bias_above_padding.S1x2048x2048 .f32) (a1 : FVec Ideal Cert.Pre_bias_above_padding.S2048 .f32)
    (a2 : FVec Ideal Cert.Pre_bias_above_padding.S8x2048 .f32) (a3 : FVec Ideal Cert.Pre_bias_above_padding.S8 .f32) (a4 a5 : FVec Ideal Cert.Pre_bias_above_padding.S8x2048x1024 .f32)
    (a6 : FVec Ideal Cert.Pre_bias_above_padding.S8x1024x2048 .f32) (h : Cert.Pre_bias_above_padding.fn (F := Ideal) a0 a1 a2 a3 a4 a5 a6 = fun _ => 1#1) (e : Fin 8) :
    Ideal.ofBits .f32 0xF149F2CA#32 < a3 (ix1 e) - Ideal.ofBits .f32 0x3F000000#32 := by
  haveI : Subsingleton Cert.Pre_bias_above_padding.S_.Idx := ⟨fun i j => funext fun a => a.elim0⟩
  have h1 := Host.reduce_andi_all _ _ _ _ (fun a => a.elim0) (congrFun h fun a => a.elim0) (ix1 e)
  exact of_decide_eq_true ((WordCmp.ofBool_eq_one_iff _).1 h1)

/-! ## The equation -/

/-- The kernel's rows are the reference's. -/
theorem equal (m : (ℓ : Loc Cert.KernelIdeal.nD Cert.KernelIdeal.τ Cert.KernelIdeal.sig) → Buf (Elt Ideal) ℓ) (c : Dev Cert.KernelIdeal.nD)
    (hb : ∀ e : Fin 8, Ideal.ofBits .f32 0xF149F2CA#32 < A3 m c (ix1 e) - Ideal.ofBits .f32 0x3F000000#32) (b : Fin 8) (r : Fin 256) (d : Fin 2048) :
    (blocks m c).acc b 31 (ix2 r d)
      = Cert.ReferenceIdeal.Moe.result (A0 m c) (A1 m c) (A2 m c) (A3 m c) (A4 m c) (A5 m c) (A6 m c) (ix2 ⟨256 * b.val + r.val, by omega⟩ d) := by
  obtain ⟨a, a', T⟩ := Top2.exists fun e => Ideal.logistic (∑ k : Fin 2048,
    Cert.ReferenceIdeal.Moe.norm (A0 m c) (A1 m c) (ix2 ⟨256 * b.val + r.val, by omega⟩ k) * A2 m c (ix2 e k)) + A3 m c (ix1 e)
  rw [Cert.ReferenceIdeal.Moe.result_at _ _ _ _ _ _ _ _ d _ (fun e => rfl) T, add_comm]
  refine out_at m c b r d (fun k => Cert.ReferenceIdeal.Moe.norm (A0 m c) (A1 m c) (ix2 ⟨256 * b.val + r.val, by omega⟩ k)) (fun k => ?_) hb _ (fun e => rfl) T
  rw [Cert.KernelIdeal.Moe.pay13_at, Cert.ReferenceIdeal.Moe.norm_at, mul_comm, x1_at]
  simp only [rows_at, x0_at]

/-- So an output whose blocks are the kernel's is the reference's result. -/
theorem output_eq (m : (ℓ : Loc Cert.KernelIdeal.nD Cert.KernelIdeal.τ Cert.KernelIdeal.sig) → Buf (Elt Ideal) ℓ) (c : Dev Cert.KernelIdeal.nD)
    (hb : ∀ e : Fin 8, Ideal.ofBits .f32 0xF149F2CA#32 < A3 m c (ix1 e) - Ideal.ofBits .f32 0x3F000000#32)
    (y : FVec Ideal Cert.KernelIdeal.S2048x2048 .f32) (hy : ∀ b : Fin 8, rows b y = (blocks m c).acc b 31) :
    y = Cert.ReferenceIdeal.Moe.result (A0 m c) (A1 m c) (A2 m c) (A3 m c) (A4 m c) (A5 m c) (A6 m c) := by
  funext i
  obtain ⟨t, d, rfl⟩ : ∃ t d : Fin 2048, i = ix2 t d := ⟨i 0, i 1, eq_ix2 i⟩
  have h := (rows_at (F := Ideal) (y := y) ⟨t.val / 256, by omega⟩ ⟨t.val % 256, by omega⟩ d).symm.trans
    ((congrFun (hy _) _).trans (equal m c hb ⟨t.val / 256, by omega⟩ ⟨t.val % 256, by omega⟩ d))
  have ht : (⟨256 * (t.val / 256) + t.val % 256, by omega⟩ : Fin 2048) = t := Fin.ext (by show 256 * (t.val / 256) + t.val % 256 = t.val; omega)
  simp only [ht] at h
  exact h

end Cert.Moe

end
-- ==== Proof.KernelRun.lean ====
module

public import proofs.«01_k».proof.Proof.Gen.Kernel
public import proofs.«01_k».proof.Proof.MoeLaunch

@[expose] public section

set_option maxRecDepth 16384

noncomputable section

namespace Cert.Kernel.Moe

open Idealize.ShloMosaic Idealize.ShloMosaic.TcCoe Idealize.SL.Sem
open Cert.Kernel.Gen Cert.KernelIdeal.Gen

variable {F : FTy → Type} [FloatOps F]

/-! ## The kernel's program is the one the run is proved of

No operation of the kernel was rewritten in the program read over the extended reals, so the two programs are one
text, and a run proved of either at any float type is a run of the other. -/

theorem main_eq : Cert.Kernel.main (F := F) = Cert.KernelIdeal.main (F := F) := rfl

theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

theorem defs_eq : Cert.Kernel.defs (F := F) = Cert.KernelIdeal.defs (F := F) := by
  unfold Cert.Kernel.defs Cert.KernelIdeal.defs
  exact congrArg _ bodies_eq

theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  rw [defs_eq]
  exact θ_run_mono (Cert.KernelIdeal.Moe.ran (F := F) m ρ) fun r h => ⟨fun c => (h.1 c).1, h.2⟩

end Cert.Kernel.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.MoeEq
public import proofs.«01_k».proof.Proof.KernelRun
public import Idealize.ShloMosaic.Adequacy
public import Idealize.ShloMosaic.Init

@[expose] public section

noncomputable section

namespace Cert.Proof

open Idealize.ShloMosaic Idealize.ShloMosaic.TcCoe Idealize.SL.Sem

theorem frame_kernel : quiescent_Kernel (hKernel := Cert.Kernel.Gen.facts) := fun m g _ => Cert.Kernel.Moe.frame m g

theorem frame_ideal : quiescent_KernelIdeal (hKernelIdeal := Cert.KernelIdeal.Gen.facts) := fun m g _ =>
  θ_run_mono (Cert.KernelIdeal.Moe.ran m g) fun r h => ⟨fun c => (h.1 c).1, h.2⟩

theorem frame_reference : quiescent_ReferenceIdeal (hReferenceIdeal := Cert.ReferenceIdeal.Gen.facts) := fun m g _ => Cert.ReferenceIdeal.Moe.frame m g

/-- The kernel and the reference end with equal results. -/
theorem equal_results : algebraic_KernelIdeal_ReferenceIdeal_pre_bias_above_padding (hKernelIdeal := Cert.KernelIdeal.Gen.facts)
    (hReferenceIdeal := Cert.ReferenceIdeal.Gen.facts) (hPre_bias_above_padding := Cert.Moe.preFacts) := by
  intro m g m' g' hpre hagree
  haveI := Cert.Moe.preFacts
  refine ⟨fun c => Cert.ReferenceIdeal.Moe.result (F := Ideal) (Cert.KernelIdeal.Moe.A0 m c) (Cert.KernelIdeal.Moe.A1 m c) (Cert.KernelIdeal.Moe.A2 m c)
    (Cert.KernelIdeal.Moe.A3 m c) (Cert.KernelIdeal.Moe.A4 m c) (Cert.KernelIdeal.Moe.A5 m c) (Cert.KernelIdeal.Moe.A6 m c), ?_, ?_⟩
  · refine θ_run_mono (Cert.KernelIdeal.Moe.ran m g) fun r h c => ⟨?_, (h.1 c).1⟩
    exact Cert.Moe.output_eq m c (fun e => Cert.Moe.bias_above _ _ _ _ _ _ _ (hpre c) e) _ (h.1 c).2
  · refine θ_run_mono (Cert.ReferenceIdeal.Moe.ran m' g') fun r h c => ⟨?_, (h c).2⟩
    obtain ⟨h0, h1, h2, h3, h4, h5, h6⟩ := hagree c
    rw [(h c).1, h0, h1, h2, h3, h4, h5, h6]

theorem claim : Cert.Claim := ⟨Cert.Kernel.Gen.facts, Cert.KernelIdeal.Gen.facts, Cert.ReferenceIdeal.Gen.facts, Cert.Moe.preFacts,
  frame_kernel, frame_ideal, fun m g _ => frame_ideal m g trivial, frame_reference, fun m g _ => frame_reference m g trivial, trivial, equal_results⟩

end Cert.Proof

end
